-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v16)) (v7 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_v16) = v6 c
          ∧ r.2.mem ((c.tc : Thread Cert.KernelIdeal.nD Cert.KernelIdeal.τ).loc Cert.KernelIdeal.main_v18) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x3072 : Shape := ⟨3, ![1, 4096, 3072]⟩
abbrev S3072 : Shape := ⟨1, ![3072]⟩
abbrev S3072x4608 : Shape := ⟨2, ![3072, 4608]⟩
abbrev S4608 : Shape := ⟨1, ![4608]⟩
abbrev S4096x3072 : Shape := ⟨2, ![4096, 3072]⟩
abbrev S1x3072 : Shape := ⟨2, ![1, 3072]⟩
abbrev S1x4608 : Shape := ⟨2, ![1, 4608]⟩
abbrev S1536x4096 : Shape := ⟨2, ![1536, 4096]⟩
abbrev S16x4096 : Shape := ⟨2, ![16, 4096]⟩
abbrev S24x4096 : Shape := ⟨2, ![24, 4096]⟩
abbrev S256x3072 : Shape := ⟨2, ![256, 3072]⟩
abbrev S1536x256 : Shape := ⟨2, ![1536, 256]⟩
abbrev S16x256 : Shape := ⟨2, ![16, 256]⟩
abbrev S24x256 : Shape := ⟨2, ![24, 256]⟩
abbrev S4608x3072 : Shape := ⟨2, ![4608, 3072]⟩
abbrev S4608x128 : Shape := ⟨2, ![4608, 128]⟩
abbrev S256x128 : Shape := ⟨2, ![256, 128]⟩
abbrev S128x256 : Shape := ⟨2, ![128, 256]⟩
abbrev S1x128 : Shape := ⟨2, ![1, 128]⟩
abbrev S128x128 : Shape := ⟨2, ![128, 128]⟩
abbrev S32x128 : Shape := ⟨2, ![32, 128]⟩
abbrev S32 : Shape := ⟨1, ![32]⟩
abbrev S32x1 : Shape := ⟨2, ![32, 1]⟩
abbrev S24x128 : Shape := ⟨2, ![24, 128]⟩
abbrev S384x3072 : Shape := ⟨2, ![384, 3072]⟩
abbrev S384x256 : Shape := ⟨2, ![384, 256]⟩
abbrev S96x128 : Shape := ⟨2, ![96, 128]⟩
abbrev S128 : Shape := ⟨1, ![128]⟩
abbrev S8x128 : Shape := ⟨2, ![8, 128]⟩
abbrev S16x96x1x4096 : Shape := ⟨4, ![16, 96, 1, 4096]⟩
abbrev S1x4096x16x96 : Shape := ⟨4, ![1, 4096, 16, 96]⟩
abbrev S16x1x4096 : Shape := ⟨3, ![16, 1, 4096]⟩
abbrev S1x4096x16 : Shape := ⟨3, ![1, 4096, 16]⟩
abbrev S24x1x4096 : Shape := ⟨3, ![24, 1, 4096]⟩
abbrev S1x4096x24 : Shape := ⟨3, ![1, 4096, 24]⟩

abbrev nBuf : Space → Nat
  | .hbm => 30
  | .vmem => 25
  | .smem => 0
  | _ => 0

abbrev bufTy : (tb : Table) → Fin (tcTables nBuf tb) → BufTy
  | .hbm, ⟨0, _⟩ => ⟨S1x4096x3072, .bf16⟩
  | .hbm, ⟨1, _⟩ => ⟨S3072, .bf16⟩
  | .hbm, ⟨2, _⟩ => ⟨S3072x4608, .fp8e4m3⟩
  | .hbm, ⟨3, _⟩ => ⟨S4608, .f32⟩
  | .hbm, ⟨4, _⟩ => ⟨S4096x3072, .bf16⟩
  | .hbm, ⟨5, _⟩ => ⟨S1x3072, .bf16⟩
  | .hbm, ⟨6, _⟩ => ⟨S1x4608, .f32⟩
  | .hbm, ⟨7, _⟩ => ⟨S1536x4096, .fp8e4m3⟩
  | .hbm, ⟨8, _⟩ => ⟨S16x4096, .f32⟩
  | .hbm, ⟨9, _⟩ => ⟨S1536x4096, .fp8e4m3⟩
  | .hbm, ⟨10, _⟩ => ⟨S16x4096, .f32⟩
  | .hbm, ⟨11, _⟩ => ⟨S1536x4096, .fp8e4m3⟩
  | .hbm, ⟨12, _⟩ => ⟨S16x4096, .f32⟩
  | .hbm, ⟨13, _⟩ => ⟨S4096x3072, .fp8e4m3⟩
  | .hbm, ⟨14, _⟩ => ⟨S24x4096, .f32⟩
  | .hbm, ⟨15, _⟩ => ⟨S16x96x1x4096, .fp8e4m3⟩
  | .hbm, ⟨16, _⟩ => ⟨S1x4096x16x96, .fp8e4m3⟩
  | .hbm, ⟨17, _⟩ => ⟨S16x1x4096, .f32⟩
  | .hbm, ⟨18, _⟩ => ⟨S1x4096x16, .f32⟩
  | .hbm, ⟨19, _⟩ => ⟨S16x96x1x4096, .fp8e4m3⟩
  | .hbm, ⟨20, _⟩ => ⟨S1x4096x16x96, .fp8e4m3⟩
  | .hbm, ⟨21, _⟩ => ⟨S16x1x4096, .f32⟩
  | .hbm, ⟨22, _⟩ => ⟨S1x4096x16, .f32⟩
  | .hbm, ⟨23, _⟩ => ⟨S16x96x1x4096, .fp8e4m3⟩
  | .hbm, ⟨24, _⟩ => ⟨S1x4096x16x96, .fp8e4m3⟩
  | .hbm, ⟨25, _⟩ => ⟨S16x1x4096, .f32⟩
  | .hbm, ⟨26, _⟩ => ⟨S1x4096x16, .f32⟩
  | .hbm, ⟨27, _⟩ => ⟨S1x4096x3072, .fp8e4m3⟩
  | .hbm, ⟨28, _⟩ => ⟨S24x1x4096, .f32⟩
  | .hbm, ⟨29, _⟩ => ⟨S1x4096x24, .f32⟩
  | .local _ .vmem, ⟨0, _⟩ => ⟨S256x3072, .bf16⟩
  | .local _ .vmem, ⟨1, _⟩ => ⟨S256x3072, .bf16⟩
  | .local _ .vmem, ⟨2, _⟩ => ⟨S1x3072, .bf16⟩
  | .local _ .vmem, ⟨3, _⟩ => ⟨S3072x4608, .fp8e4m3⟩
  | .local _ .vmem, ⟨4, _⟩ => ⟨S1x4608, .f32⟩
  | .local _ .vmem, ⟨5, _⟩ => ⟨S1536x256, .fp8e4m3⟩
  | .local _ .vmem, ⟨6, _⟩ => ⟨S1536x256, .fp8e4m3⟩
  | .local _ .vmem, ⟨7, _⟩ => ⟨S16x256, .f32⟩
  | .local _ .vmem, ⟨8, _⟩ => ⟨S16x256, .f32⟩
  | .local _ .vmem, ⟨9, _⟩ => ⟨S1536x256, .fp8e4m3⟩
  | .local _ .vmem, ⟨10, _⟩ => ⟨S1536x256, .fp8e4m3⟩
  | .local _ .vmem, ⟨11, _⟩ => ⟨S16x256, .f32⟩
  | .local _ .vmem, ⟨12, _⟩ => ⟨S16x256, .f32⟩
  | .local _ .vmem, ⟨13, _⟩ => ⟨S1536x256, .fp8e4m3⟩
  | .local _ .vmem, ⟨14, _⟩ => ⟨S1536x256, .fp8e4m3⟩
  | .local _ .vmem, ⟨15, _⟩ => ⟨S16x256, .f32⟩
  | .local _ .vmem, ⟨16, _⟩ => ⟨S16x256, .f32⟩
  | .local _ .vmem, ⟨17, _⟩ => ⟨S256x3072, .fp8e4m3⟩
  | .local _ .vmem, ⟨18, _⟩ => ⟨S256x3072, .fp8e4m3⟩
  | .local _ .vmem, ⟨19, _⟩ => ⟨S24x256, .f32⟩
  | .local _ .vmem, ⟨20, _⟩ => ⟨S24x256, .f32⟩
  | .local _ .vmem, ⟨21, _⟩ => ⟨S4608x3072, .bf16⟩
  | .local _ .vmem, ⟨22, _⟩ => ⟨S4608x128, .f32⟩
  | .local _ .vmem, ⟨23, _⟩ => ⟨S256x3072, .bf16⟩
  | .local _ .vmem, ⟨24, _⟩ => ⟨S256x128, .f32⟩
  | _, _ => ⟨S1x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2300 : BitVec 32 := 0#32
  let c36_i32 : BitVec 32 := 36#32
  let v7249 : BitVec 32 := Scalar.addi c0_i32_2300 c36_i32
  let c1_i32_2301 : BitVec 32 := 1#32
  ⟨c0_i32_2300, v7249, c1_i32_2301⟩
def k0_mult1 (k0_t1 : Fin k0_t1_loop.trips) : BitVec 32 :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  v7250
def k0_off1 (k0_t1 : Fin k0_t1_loop.trips) : Fin 2 → Nat :=
  let c0_2303 : Index := 0#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7252 : Index := Scalar.indexCast v7251
  ![0, v7252.toNat]
def k0_off2 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7257 : Index := Scalar.indexCast v7251
  let c0_2304 : Index := 0#32
  ![v7257.toNat, 0]
def k0_off3 (k0_t1 : Fin k0_t1_loop.trips) : Fin 2 → Nat :=
  let c256 : Index := 256#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7261 : Index := Scalar.indexCast v7251
  ![256, v7261.toNat]
def k0_off4 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7266 : Index := Scalar.indexCast v7251
  let c256_2305 : Index := 256#32
  ![v7266.toNat, 256]
def k0_off5 (k0_t1 : Fin k0_t1_loop.trips) : Fin 2 → Nat :=
  let c512 : Index := 512#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7270 : Index := Scalar.indexCast v7251
  ![512, v7270.toNat]
def k0_off6 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7275 : Index := Scalar.indexCast v7251
  let c512_2306 : Index := 512#32
  ![v7275.toNat, 512]
def k0_off7 (k0_t1 : Fin k0_t1_loop.trips) : Fin 2 → Nat :=
  let c768_2307 : Index := 768#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7279 : Index := Scalar.indexCast v7251
  ![768, v7279.toNat]
def k0_off8 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7284 : Index := Scalar.indexCast v7251
  let c768_2308 : Index := 768#32
  ![v7284.toNat, 768]
def k0_off9 (k0_t1 : Fin k0_t1_loop.trips) : Fin 2 → Nat :=
  let c1024 : Index := 1024#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7288 : Index := Scalar.indexCast v7251
  ![1024, v7288.toNat]
def k0_off10 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7293 : Index := Scalar.indexCast v7251
  let c1024_2309 : Index := 1024#32
  ![v7293.toNat, 1024]
def k0_off11 (k0_t1 : Fin k0_t1_loop.trips) : Fin 2 → Nat :=
  let c1280 : Index := 1280#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7297 : Index := Scalar.indexCast v7251
  ![1280, v7297.toNat]
def k0_off12 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7302 : Index := Scalar.indexCast v7251
  let c1280_2310 : Index := 1280#32
  ![v7302.toNat, 1280]
def k0_off13 (k0_t1 : Fin k0_t1_loop.trips) : Fin 2 → Nat :=
  let c1536_2311 : Index := 1536#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7306 : Index := Scalar.indexCast v7251
  ![1536, v7306.toNat]
def k0_off14 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7311 : Index := Scalar.indexCast v7251
  let c1536_2312 : Index := 1536#32
  ![v7311.toNat, 1536]
def k0_off15 (k0_t1 : Fin k0_t1_loop.trips) : Fin 2 → Nat :=
  let c1792 : Index := 1792#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7315 : Index := Scalar.indexCast v7251
  ![1792, v7315.toNat]
def k0_off16 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7320 : Index := Scalar.indexCast v7251
  let c1792_2313 : Index := 1792#32
  ![v7320.toNat, 1792]
def k0_off17 (k0_t1 : Fin k0_t1_loop.trips) : Fin 2 → Nat :=
  let c2048 : Index := 2048#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7324 : Index := Scalar.indexCast v7251
  ![2048, v7324.toNat]
def k0_off18 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7329 : Index := Scalar.indexCast v7251
  let c2048_2314 : Index := 2048#32
  ![v7329.toNat, 2048]
def k0_off19 (k0_t1 : Fin k0_t1_loop.trips) : Fin 2 → Nat :=
  let c2304_2315 : Index := 2304#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7333 : Index := Scalar.indexCast v7251
  ![2304, v7333.toNat]
def k0_off20 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7338 : Index := Scalar.indexCast v7251
  let c2304_2316 : Index := 2304#32
  ![v7338.toNat, 2304]
def k0_off21 (k0_t1 : Fin k0_t1_loop.trips) : Fin 2 → Nat :=
  let c2560 : Index := 2560#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7342 : Index := Scalar.indexCast v7251
  ![2560, v7342.toNat]
def k0_off22 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7347 : Index := Scalar.indexCast v7251
  let c2560_2317 : Index := 2560#32
  ![v7347.toNat, 2560]
def k0_off23 (k0_t1 : Fin k0_t1_loop.trips) : Fin 2 → Nat :=
  let c2816 : Index := 2816#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7351 : Index := Scalar.indexCast v7251
  ![2816, v7351.toNat]
def k0_off24 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7356 : Index := Scalar.indexCast v7251
  let c2816_2318 : Index := 2816#32
  ![v7356.toNat, 2816]
def k0_off25 (k0_t1 : Fin k0_t1_loop.trips) : Fin 2 → Nat :=
  let c0_2319 : Index := 0#32
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7360 : Index := Scalar.indexCast v7251
  ![0, v7360.toNat]
def k0_off26 (k0_t1 : Fin k0_t1_loop.trips) : Fin 2 → Nat :=
  let c0_i32_2300 : BitVec 32 := 0#32
  let c1_i32_2301 : BitVec 32 := 1#32
  let arg17 : BitVec 32 := Scf.iv c0_i32_2300 c1_i32_2301 k0_t1
  let c128_i32 : BitVec 32 := 128#32
  let v7250 : BitVec 32 := Scalar.muli arg17 c128_i32
  let v7251 : BitVec 32 := v7250
  let v7366 : Index := Scalar.indexCast v7251
  let c0_2320 : Index := 0#32
  ![v7366.toNat, 0]
@[reducible] def k0_t2_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult2 (k0_t2 : Fin k0_t2_loop.trips) : BitVec 32 :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  v7249
def k0_off27 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7252 : Index := Scalar.indexCast v7250
  let c0_2301 : Index := 0#32
  ![v7252.toNat, 0]
def k0_off28 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7258 : Index := Scalar.indexCast v7250
  let c128_2302 : Index := 128#32
  ![v7258.toNat, 128]
def k0_off29 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7264 : Index := Scalar.indexCast v7250
  let c256 : Index := 256#32
  ![v7264.toNat, 256]
def k0_off30 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7270 : Index := Scalar.indexCast v7250
  let c384_2303 : Index := 384#32
  ![v7270.toNat, 384]
def k0_off31 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7276 : Index := Scalar.indexCast v7250
  let c512 : Index := 512#32
  ![v7276.toNat, 512]
def k0_off32 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7282 : Index := Scalar.indexCast v7250
  let c640 : Index := 640#32
  ![v7282.toNat, 640]
def k0_off33 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7288 : Index := Scalar.indexCast v7250
  let c768_2304 : Index := 768#32
  ![v7288.toNat, 768]
def k0_off34 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7294 : Index := Scalar.indexCast v7250
  let c896 : Index := 896#32
  ![v7294.toNat, 896]
def k0_off35 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7300 : Index := Scalar.indexCast v7250
  let c1024 : Index := 1024#32
  ![v7300.toNat, 1024]
def k0_off36 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7306 : Index := Scalar.indexCast v7250
  let c1152_2305 : Index := 1152#32
  ![v7306.toNat, 1152]
def k0_off37 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7312 : Index := Scalar.indexCast v7250
  let c1280 : Index := 1280#32
  ![v7312.toNat, 1280]
def k0_off38 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7318 : Index := Scalar.indexCast v7250
  let c1408 : Index := 1408#32
  ![v7318.toNat, 1408]
def k0_off39 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7324 : Index := Scalar.indexCast v7250
  let c1536_2306 : Index := 1536#32
  ![v7324.toNat, 1536]
def k0_off40 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7330 : Index := Scalar.indexCast v7250
  let c1664 : Index := 1664#32
  ![v7330.toNat, 1664]
def k0_off41 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7336 : Index := Scalar.indexCast v7250
  let c1792 : Index := 1792#32
  ![v7336.toNat, 1792]
def k0_off42 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7342 : Index := Scalar.indexCast v7250
  let c1920_2307 : Index := 1920#32
  ![v7342.toNat, 1920]
def k0_off43 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7348 : Index := Scalar.indexCast v7250
  let c2048 : Index := 2048#32
  ![v7348.toNat, 2048]
def k0_off44 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7354 : Index := Scalar.indexCast v7250
  let c2176 : Index := 2176#32
  ![v7354.toNat, 2176]
def k0_off45 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7360 : Index := Scalar.indexCast v7250
  let c2304_2308 : Index := 2304#32
  ![v7360.toNat, 2304]
def k0_off46 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7366 : Index := Scalar.indexCast v7250
  let c2432 : Index := 2432#32
  ![v7366.toNat, 2432]
def k0_off47 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7372 : Index := Scalar.indexCast v7250
  let c2560 : Index := 2560#32
  ![v7372.toNat, 2560]
def k0_off48 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7378 : Index := Scalar.indexCast v7250
  let c2688_2309 : Index := 2688#32
  ![v7378.toNat, 2688]
def k0_off49 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7384 : Index := Scalar.indexCast v7250
  let c2816 : Index := 2816#32
  ![v7384.toNat, 2816]
def k0_off50 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v7390 : Index := Scalar.indexCast v7250
  let c2944 : Index := 2944#32
  ![v7390.toNat, 2944]
def k0_off51 (k0_t2 : Fin k0_t2_loop.trips) : Fin 2 → Nat :=
  let c0_i32_1 : BitVec 32 := 0#32
  let c1_i32 : BitVec 32 := 1#32
  let arg17 : BitVec 32 := Scf.iv c0_i32_1 c1_i32 k0_t2
  let c32_i32 : BitVec 32 := 32#32
  let v7249 : BitVec 32 := Scalar.muli arg17 c32_i32
  let v7250 : BitVec 32 := v7249
  let v9564 : Index := Scalar.indexCast v7250
  let c0_2869 : Index := 0#32
  ![v9564.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S24x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S1x4096x3072 : Shape := ⟨3, ![1, 4096, 3072]⟩
abbrev S3072 : Shape := ⟨1, ![3072]⟩
abbrev S3072x4608 : Shape := ⟨2, ![3072, 4608]⟩
abbrev S4608 : Shape := ⟨1, ![4608]⟩
abbrev S1x3072 : Shape := ⟨2, ![1, 3072]⟩
abbrev S1x4608 : Shape := ⟨2, ![1, 4608]⟩
abbrev S1x4096x16x96 : Shape := ⟨4, ![1, 4096, 16, 96]⟩
abbrev S1x4096x16 : Shape := ⟨3, ![1, 4096, 16]⟩
abbrev S1x4096x24 : Shape := ⟨3, ![1, 4096, 24]⟩
abbrev S4096x3072 : Shape := ⟨2, ![4096, 3072]⟩
abbrev S4096 : Shape := ⟨1, ![4096]⟩
abbrev S4096x1 : Shape := ⟨2, ![4096, 1]⟩
abbrev S4096x24x128 : Shape := ⟨3, ![4096, 24, 128]⟩
abbrev S4096x24 : Shape := ⟨2, ![4096, 24]⟩
abbrev S4096x24x1 : Shape := ⟨3, ![4096, 24, 1]⟩
abbrev S4096x4608 : Shape := ⟨2, ![4096, 4608]⟩
abbrev S4096x48x96 : Shape := ⟨3, ![4096, 48, 96]⟩
abbrev S4096x16x96 : Shape := ⟨3, ![4096, 16, 96]⟩
abbrev S4096x16 : Shape := ⟨2, ![4096, 16]⟩
abbrev S4096x16x1 : Shape := ⟨3, ![4096, 16, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x4096x3072, .bf16⟩
  | .hbm, ⟨1, _⟩ => ⟨S3072, .bf16⟩
  | .hbm, ⟨2, _⟩ => ⟨S3072x4608, .fp8e4m3⟩
  | .hbm, ⟨3, _⟩ => ⟨S4608, .f32⟩
  | .hbm, ⟨4, _⟩ => ⟨S1x3072, .bf16⟩
  | .hbm, ⟨5, _⟩ => ⟨S1x4608, .f32⟩
  | .hbm, ⟨6, _⟩ => ⟨S1x4096x16x96, .fp8e4m3⟩
  | .hbm, ⟨7, _⟩ => ⟨S1x4096x16, .f32⟩
  | .hbm, ⟨8, _⟩ => ⟨S1x4096x16x96, .fp8e4m3⟩
  | .hbm, ⟨9, _⟩ => ⟨S1x4096x16, .f32⟩
  | .hbm, ⟨10, _⟩ => ⟨S1x4096x16x96, .fp8e4m3⟩
  | .hbm, ⟨11, _⟩ => ⟨S1x4096x16, .f32⟩
  | .hbm, ⟨12, _⟩ => ⟨S1x4096x3072, .fp8e4m3⟩
  | .hbm, ⟨13, _⟩ => ⟨S1x4096x24, .f32⟩
  | .local _ .vmem, ⟨0, _⟩ => ⟨S1x4096x3072, .bf16⟩
  | .local _ .vmem, ⟨1, _⟩ => ⟨S1x3072, .bf16⟩
  | .local _ .vmem, ⟨2, _⟩ => ⟨S3072x4608, .fp8e4m3⟩
  | .local _ .vmem, ⟨3, _⟩ => ⟨S1x4608, .f32⟩
  | .local _ .vmem, ⟨4, _⟩ => ⟨S1x4096x16x96, .fp8e4m3⟩
  | .local _ .vmem, ⟨5, _⟩ => ⟨S1x4096x16, .f32⟩
  | .local _ .vmem, ⟨6, _⟩ => ⟨S1x4096x16x96, .fp8e4m3⟩
  | .local _ .vmem, ⟨7, _⟩ => ⟨S1x4096x16, .f32⟩
  | .local _ .vmem, ⟨8, _⟩ => ⟨S1x4096x16x96, .fp8e4m3⟩
  | .local _ .vmem, ⟨9, _⟩ => ⟨S1x4096x16, .f32⟩
  | .local _ .vmem, ⟨10, _⟩ => ⟨S1x4096x3072, .fp8e4m3⟩
  | .local _ .vmem, ⟨11, _⟩ => ⟨S1x4096x24, .f32⟩
  | _, _ => ⟨S1x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev main_v2_7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096x16x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096x16x96 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096x16x96 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096x3072 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096x24 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Pow2.lean ====
/- The power-of-two scale of a quantisation group, over the extended reals.

The kernel finds the exponent field of the largest power of two not above `x` by a bitwise search, comparing `x` with
the number each candidate field stands for; the reference takes the floor of a logarithm. This file states both on one
number and shows that they give the same scale and the same inverse scale, for every extended real. -/
module

public import Idealize.ShloMosaic.PureOps.Ideal

@[expose] public section

set_option maxRecDepth 16384

noncomputable section

namespace Cert.Pow2

open Idealize.ShloMosaic

/-- The field `v` of a 32-bit float as a bit pattern: the field above 23 zero bits. -/
def bitsOf (v : ℕ) : BitVec 32 := BitVec.ofNat 32 (v * 2 ^ 23)

/-- The number a 32-bit float with field `v` and zero fraction stands for. -/
def T (v : ℕ) : EReal := if v = 255 then ⊤ else if v = 0 then 0 else (((2 : ℝ) ^ ((v : ℤ) - 127) : ℝ) : EReal)

theorem ofBits_bitsOf (v : ℕ) (h : v < 256) : Ideal.ofBits .f32 (bitsOf v) = T v := by
  have key : ∀ v : Fin 256, ((bitsOf v.val).extractLsb' (8 + 23) 1 == 1#1) = false
      ∧ ((bitsOf v.val).extractLsb' 23 8).toNat = v.val ∧ ((bitsOf v.val).extractLsb' 0 23).toNat = 0 := by
    decide +kernel
  obtain ⟨h1, h2, h3⟩ := key ⟨v, h⟩
  show Ideal.ieee 8 23 (bitsOf v) = T v
  unfold Ideal.ieee
  simp only [h1, h2, h3]
  unfold T
  by_cases h255 : v = 255
  · simp [h255]
  · by_cases h0 : v = 0
    · simp [h0]
    · rw [if_neg (by simpa using h255), if_neg h0, if_neg h255, if_neg h0]
      congr 1
      have h2' : ((2 ^ 23 + 0 : ℕ) : ℝ) = (2 : ℝ) ^ (23 : ℤ) := by norm_num
      simp only [Bool.false_eq_true, if_false, one_mul]
      rw [h2', ← zpow_add₀ (by norm_num : (2 : ℝ) ≠ 0)]
      congr 1
      norm_num

/-- One step of the search: keep the candidate with the bits `c` added unless `x` is below it. -/
def step (c : BitVec 32) (x : EReal) (bits : BitVec 32) : BitVec 32 :=
  Scalar.select (Ideal.cmp .olt x (Ideal.ofBits .f32 (IntOp.ori bits c))) bits (IntOp.ori bits c)

/-- The search: eight steps from the highest bit of the field to the lowest. -/
def search (x : EReal) : BitVec 32 :=
  step 8388608#32 x (step 16777216#32 x (step 33554432#32 x (step 67108864#32 x (step 134217728#32 x
    (step 268435456#32 x (step 536870912#32 x (step 1073741824#32 x 0#32)))))))

/-- A field `v` is a prefix of the answer at level `j`: a multiple of `2 ^ j`, zero or a power not above `x`, and the
next multiple is above `x` or no field at all. -/
def Inv (x : EReal) (j v : ℕ) : Prop :=
  v + 2 ^ j ≤ 256 ∧ 2 ^ j ∣ v ∧ (v = 0 ∨ T v ≤ x) ∧ (v + 2 ^ j = 256 ∨ x < T (v + 2 ^ j))

theorem ori_bitsOf (v j : ℕ) (hj : j < 8) (hv : v + 2 ^ (j + 1) ≤ 256) (hd : 2 ^ (j + 1) ∣ v) :
    IntOp.ori (bitsOf v) (BitVec.ofNat 32 (2 ^ (23 + j))) = bitsOf (v + 2 ^ j) := by
  have key : ∀ j : Fin 8, ∀ v : Fin 256, v.val + 2 ^ (j.val + 1) ≤ 256 → v.val % 2 ^ (j.val + 1) = 0 →
      (bitsOf v.val ||| BitVec.ofNat 32 (2 ^ (23 + j.val))) = bitsOf (v.val + 2 ^ j.val) := by
    decide +kernel
  have hp : 0 < 2 ^ (j + 1) := Nat.two_pow_pos _
  exact key ⟨j, hj⟩ ⟨v, by omega⟩ hv (Nat.mod_eq_zero_of_dvd hd)

theorem step_inv (x : EReal) (j v : ℕ) (hj : j < 8) (h : Inv x (j + 1) v) :
    ∃ v', step (BitVec.ofNat 32 (2 ^ (23 + j))) x (bitsOf v) = bitsOf v' ∧ Inv x j v' := by
  obtain ⟨h1, h2, h3, h4⟩ := h
  have hp : 2 ^ (j + 1) = 2 * 2 ^ j := by rw [pow_succ]; ring
  have hpos : 0 < 2 ^ j := Nat.two_pow_pos _
  have hdj : 2 ^ j ∣ v := (Dvd.intro_left 2 hp.symm).trans h2
  unfold step
  rw [ori_bitsOf v j hj h1 h2, ofBits_bitsOf _ (by omega)]
  unfold Ideal.cmp Scalar.select
  by_cases hx : x < T (v + 2 ^ j)
  · refine ⟨v, ?_, by omega, hdj, h3, Or.inr hx⟩
    simp [hx]
  · refine ⟨v + 2 ^ j, ?_, by omega, hdj.add (dvd_refl _), Or.inr (not_lt.mp hx), ?_⟩
    · simp [hx]
    · rcases h4 with h4 | h4
      · left; omega
      · right
        have : v + 2 ^ j + 2 ^ j = v + 2 ^ (j + 1) := by omega
        rwa [this]

theorem search_spec (x : EReal) : ∃ v, search x = bitsOf v ∧ Inv x 0 v := by
  have h0 : Inv x 8 0 := ⟨by norm_num, by norm_num, Or.inl rfl, Or.inl (by norm_num)⟩
  obtain ⟨v7, e7, h7⟩ := step_inv x 7 0 (by norm_num) h0
  obtain ⟨v6, e6, h6⟩ := step_inv x 6 v7 (by norm_num) h7
  obtain ⟨v5, e5, h5⟩ := step_inv x 5 v6 (by norm_num) h6
  obtain ⟨v4, e4, h4⟩ := step_inv x 4 v5 (by norm_num) h5
  obtain ⟨v3, e3, h3⟩ := step_inv x 3 v4 (by norm_num) h4
  obtain ⟨v2, e2, h2⟩ := step_inv x 2 v3 (by norm_num) h3
  obtain ⟨v1, e1, h1⟩ := step_inv x 1 v2 (by norm_num) h2
  obtain ⟨w, e0, h⟩ := step_inv x 0 v1 (by norm_num) h1
  refine ⟨w, ?_, h⟩
  rw [← e0, ← e1, ← e2, ← e3, ← e4, ← e5, ← e6, ← e7]
  rfl

/-- The kernel's scale bits from the field. -/
def scaleBits (b : BitVec 32) : BitVec 32 :=
  Scalar.select (IntOp.cmpi .eq b 0#32) 1065353216#32 (IntOp.addi b 8388608#32)

/-- The kernel's inverse-scale bits from the field. -/
def invBits (b : BitVec 32) : BitVec 32 :=
  Scalar.select (IntOp.cmpi .eq b 0#32) 1065353216#32 (IntOp.subi 2122317824#32 b)

/-- The number searched: the group's bound, capped at `2 ^ 125`. -/
def capped (a : EReal) : EReal := min (a * Ideal.ofBits .f32 0x3B124925#32) (Ideal.ofBits .f32 0x7E000000#32)

/-- The kernel's scale of a group with largest magnitude `a`. -/
def scale (a : EReal) : EReal := Ideal.ofBits .f32 (scaleBits (search (capped a)))

/-- The kernel's inverse scale of a group with largest magnitude `a`. -/
def inv (a : EReal) : EReal := Ideal.ofBits .f32 (invBits (search (capped a)))

/-- The reference's exponent of a group with largest magnitude `a`. -/
def expo (a : EReal) : EReal :=
  Scalar.select (Ideal.cmp .olt (a * Ideal.ofBits .f32 0x3B124925#32) (Ideal.ofBits .f32 0x00800000#32))
    (Ideal.ofBits .f32 0x00000000#32)
    (min (Ideal.liftRound Int.floor (Ideal.div (Ideal.log (a * Ideal.ofBits .f32 0x3B124925#32))
        (Ideal.log (Ideal.ofBits .f32 0x40000000#32))) + Ideal.ofBits .f32 0x3F800000#32)
      (Ideal.ofBits .f32 0x42FC0000#32))

theorem scaleBits_bitsOf (v : ℕ) (h : v < 253) :
    scaleBits (bitsOf v) = if v = 0 then bitsOf 127 else bitsOf (v + 1) := by
  have key : ∀ v : Fin 253, scaleBits (bitsOf v.val) = if v.val = 0 then bitsOf 127 else bitsOf (v.val + 1) := by
    decide +kernel
  exact key ⟨v, h⟩

theorem invBits_bitsOf (v : ℕ) (h : v < 253) :
    invBits (bitsOf v) = if v = 0 then bitsOf 127 else bitsOf (253 - v) := by
  have key : ∀ v : Fin 253, invBits (bitsOf v.val) = if v.val = 0 then bitsOf 127 else bitsOf (253 - v.val) := by
    decide +kernel
  exact key ⟨v, h⟩

theorem T_mid (v : ℕ) (h0 : v ≠ 0) (h : v < 255) : T v = (((2 : ℝ) ^ ((v : ℤ) - 127) : ℝ) : EReal) := by
  unfold T; rw [if_neg (by omega), if_neg h0]

theorem c_cap : Ideal.ofBits .f32 0x7E000000#32 = (((2 : ℝ) ^ (125 : ℤ) : ℝ) : EReal) := by
  have := ofBits_bitsOf 252 (by norm_num)
  rw [T_mid 252 (by norm_num) (by norm_num)] at this
  norm_num [bitsOf] at this ⊢
  exact this

theorem c_min : Ideal.ofBits .f32 0x00800000#32 = (((2 : ℝ) ^ (-126 : ℤ) : ℝ) : EReal) := by
  have := ofBits_bitsOf 1 (by norm_num)
  rw [T_mid 1 (by norm_num) (by norm_num)] at this
  simpa [bitsOf] using this

theorem c_two : Ideal.ofBits .f32 0x40000000#32 = ((2 : ℝ) : EReal) := by
  have := ofBits_bitsOf 128 (by norm_num)
  rw [T_mid 128 (by norm_num) (by norm_num)] at this
  simpa [bitsOf] using this

theorem c_one : Ideal.ofBits .f32 0x3F800000#32 = ((1 : ℝ) : EReal) := by
  have := ofBits_bitsOf 127 (by norm_num)
  rw [T_mid 127 (by norm_num) (by norm_num)] at this
  simpa [bitsOf] using this

theorem c_zero : Ideal.ofBits .f32 0x00000000#32 = 0 := by
  have := ofBits_bitsOf 0 (by norm_num)
  simpa [bitsOf, T] using this

theorem c_126 : Ideal.ofBits .f32 0x42FC0000#32 = ((126 : ℝ) : EReal) := by
  have h1 : ((0x42FC0000#32).extractLsb' (8 + 23) 1 == 1#1) = false := by decide
  have h2 : ((0x42FC0000#32).extractLsb' 23 8).toNat = 133 := by decide
  have h3 : ((0x42FC0000#32).extractLsb' 0 23).toNat = 8126464 := by decide
  change Ideal.ieee 8 23 0x42FC0000#32 = _
  unfold Ideal.ieee
  simp only [h1, h2, h3]
  norm_num

/-- The scale and the inverse scale of a group whose bound lies in the binade of `2 ^ k`. -/
theorem field_of (a : EReal) (h : Ideal.ofBits .f32 0x00800000#32 ≤ a * Ideal.ofBits .f32 0x3B124925#32) :
    ∃ k : ℤ, -126 ≤ k ∧ k ≤ 125 ∧ (((2 : ℝ) ^ k : ℝ) : EReal) ≤ capped a
      ∧ capped a < (((2 : ℝ) ^ (k + 1) : ℝ) : EReal)
      ∧ scale a = (((2 : ℝ) ^ (k + 1) : ℝ) : EReal) ∧ inv a = (((2 : ℝ) ^ (-(k + 1)) : ℝ) : EReal) := by
  obtain ⟨v, hs, h1, h2, h3, h4⟩ := search_spec (capped a)
  have hcap : capped a ≤ (((2 : ℝ) ^ (125 : ℤ) : ℝ) : EReal) := by rw [← c_cap]; exact min_le_right _ _
  have hlow : (((2 : ℝ) ^ (-126 : ℤ) : ℝ) : EReal) ≤ capped a := by
    refine le_min (by rw [← c_min]; exact h) ?_
    rw [c_cap, EReal.coe_le_coe_iff]
    exact zpow_le_zpow_right₀ (by norm_num) (by norm_num)
  have hv : v < 253 := by
    by_contra hc
    have hc' : 253 ≤ v := by omega
    rcases h3 with h3 | h3
    · omega
    · have := h3.trans hcap
      by_cases h255 : v = 255
      · have hT : T v = ⊤ := by rw [h255]; rfl
        rw [hT, top_le_iff] at this
        exact EReal.coe_ne_top _ this
      · rw [T_mid v (by omega) (by omega), EReal.coe_le_coe_iff, zpow_le_zpow_iff_right₀ (by norm_num)] at this
        omega
  have hv0 : v ≠ 0 := by
    intro h0
    rcases h4 with h4 | h4
    · norm_num [h0] at h4
    · rw [h0, T_mid _ (by norm_num) (by norm_num)] at h4
      exact absurd (hlow.trans_lt h4) (by norm_num)
  refine ⟨(v : ℤ) - 127, by omega, by omega, ?_, ?_, ?_, ?_⟩
  · rcases h3 with h3 | h3
    · exact absurd h3 hv0
    · rwa [T_mid v hv0 (by omega)] at h3
  · rcases h4 with h4 | h4
    · norm_num at h4; omega
    · rw [T_mid _ (by omega) (by norm_num; omega)] at h4
      convert h4 using 3
      push_cast; ring
  · unfold scale
    rw [hs, scaleBits_bitsOf v hv, if_neg hv0, ofBits_bitsOf _ (by omega), T_mid _ (by omega) (by omega)]
    congr 2; push_cast; ring
  · unfold inv
    rw [hs, invBits_bitsOf v hv, if_neg hv0, ofBits_bitsOf _ (by omega), T_mid _ (by omega) (by omega)]
    congr 2; rw [Nat.cast_sub (by omega)]; push_cast; ring

/-- Below the least normal power of two the scale and its inverse are one. -/
theorem small (a : EReal) (h : a * Ideal.ofBits .f32 0x3B124925#32 < Ideal.ofBits .f32 0x00800000#32) :
    scale a = 1 ∧ inv a = 1 := by
  obtain ⟨v, hs, h1, h2, h3, h4⟩ := search_spec (capped a)
  have hc : capped a < (((2 : ℝ) ^ (-126 : ℤ) : ℝ) : EReal) := by
    rw [← c_min]; exact (min_le_left _ _).trans_lt h
  have hv0 : v = 0 := by
    by_contra h0
    rcases h3 with h3 | h3
    · exact h0 h3
    · have := h3.trans_lt hc
      by_cases h255 : v = 255
      · rw [h255] at this
        simp only [T, if_pos rfl] at this
        exact absurd this (not_lt.mpr le_top)
      · rw [T_mid v h0 (by omega), EReal.coe_lt_coe_iff, zpow_lt_zpow_iff_right₀ (by norm_num)] at this
        omega
  unfold scale inv
  rw [hs, hv0, scaleBits_bitsOf 0 (by norm_num), invBits_bitsOf 0 (by norm_num)]
  simp only [if_pos]
  rw [ofBits_bitsOf 127 (by norm_num), T_mid 127 (by norm_num) (by norm_num)]
  norm_num

theorem floor_log (y : ℝ) (k : ℤ) (h1 : (2 : ℝ) ^ k ≤ y) (h2 : y < (2 : ℝ) ^ (k + 1)) :
    ⌊Real.log y * (1 / Real.log 2)⌋ = k := by
  have hy : 0 < y := (zpow_pos (by norm_num) _).trans_le h1
  have hl : 0 < Real.log 2 := Real.log_pos (by norm_num)
  rw [Int.floor_eq_iff, mul_one_div, le_div_iff₀ hl, div_lt_iff₀ hl]
  constructor
  · rw [← Real.log_zpow]; exact Real.log_le_log (zpow_pos (by norm_num) _) h1
  · have := Real.log_lt_log hy h2
    rw [Real.log_zpow] at this
    exact_mod_cast this

theorem scale_inv_eq (a : EReal) : scale a = Ideal.exp2 (expo a) ∧ inv a = Ideal.exp2 (0 - expo a) := by
  by_cases hx : a * Ideal.ofBits .f32 0x3B124925#32 < Ideal.ofBits .f32 0x00800000#32
  · obtain ⟨h1, h2⟩ := small a hx
    have he : expo a = ((0 : ℝ) : EReal) := by
      unfold expo Ideal.cmp Scalar.select
      simp only [hx, c_zero]; simp
    rw [he, h1, h2]
    have e0 : Ideal.exp2 ((0 : ℝ) : EReal) = 1 := by
      rw [Ideal.exp2_coe]; simp [Real.rpow_eq_pow]
    constructor
    · exact e0.symm
    · rw [EReal.coe_zero, sub_zero, ← EReal.coe_zero]; exact e0.symm
  · obtain ⟨k, hk1, hk2, h1, h2, hs, hi⟩ := field_of a (not_lt.mp hx)
    have he : expo a = (((k + 1 : ℤ) : ℝ) : EReal) := by
      unfold expo Ideal.cmp Scalar.select
      simp only [hx, decide_false]
      rw [if_neg (by decide)]
      generalize hX : a * Ideal.ofBits .f32 0x3B124925#32 = X at *
      have hcapd : capped a = min X (((2 : ℝ) ^ (125 : ℤ) : ℝ) : EReal) := by unfold capped; rw [hX, c_cap]
      rw [hcapd] at h1 h2
      rw [c_two, c_one, c_126]
      have hl : Real.log 2 ≠ 0 := (Real.log_pos (by norm_num)).ne'
      rw [Ideal.log_coe, if_neg (by norm_num), Ideal.div_coe hl]
      rw [c_min, not_lt] at hx
      induction X using EReal.rec with
      | bot => simp at hx
      | top =>
        have hk : k = 125 := by
          rw [min_eq_right le_top, EReal.coe_lt_coe_iff, zpow_lt_zpow_iff_right₀ (by norm_num)] at h2
          omega
        have : (0 : ℝ) < 1 / Real.log 2 := by have := Real.log_pos (by norm_num : (1 : ℝ) < 2); positivity
        rw [Ideal.log_top, EReal.top_mul_coe_of_pos this, Ideal.liftRound_top, EReal.top_add_coe, min_eq_right le_top, hk]
        norm_num
      | coe y =>
        have hy : 0 < y := (zpow_pos (by norm_num) _).trans_le (EReal.coe_le_coe_iff.mp hx)
        rw [Ideal.log_coe, if_neg (not_le.mpr hy), ← EReal.coe_mul, Ideal.liftRound_coe, ← EReal.coe_add]
        by_cases hyc : y < (2 : ℝ) ^ (125 : ℤ)
        · have hmin : min (y : EReal) (((2 : ℝ) ^ (125 : ℤ) : ℝ) : EReal) = y :=
            min_eq_left (EReal.coe_le_coe_iff.mpr hyc.le)
          rw [hmin] at h1 h2
          rw [floor_log y k (EReal.coe_le_coe_iff.mp h1) (EReal.coe_lt_coe_iff.mp h2)]
          rw [min_eq_left]
          · push_cast; rfl
          · rw [EReal.coe_le_coe_iff]
            have : (k : ℝ) ≤ 125 := by exact_mod_cast hk2
            linarith
        · have hyc' := not_lt.mp hyc
          have hmin : min (y : EReal) (((2 : ℝ) ^ (125 : ℤ) : ℝ) : EReal) = (((2 : ℝ) ^ (125 : ℤ) : ℝ) : EReal) :=
            min_eq_right (EReal.coe_le_coe_iff.mpr hyc')
          have hk : k = 125 := by
            rw [hmin, EReal.coe_lt_coe_iff, zpow_lt_zpow_iff_right₀ (by norm_num)] at h2
            omega
          rw [min_eq_right, hk]
          · norm_num
          · rw [EReal.coe_le_coe_iff]
            have hf : (125 : ℤ) ≤ ⌊Real.log y * (1 / Real.log 2)⌋ := by
              have hl : 0 < Real.log 2 := Real.log_pos (by norm_num)
              rw [Int.le_floor, mul_one_div, le_div_iff₀ hl, ← Real.log_zpow]
              exact Real.log_le_log (zpow_pos (by norm_num) _) hyc'
            have : (125 : ℝ) ≤ (⌊Real.log y * (1 / Real.log 2)⌋ : ℝ) := by exact_mod_cast hf
            linarith
    rw [he, hs, hi]
    have hn : (0 : EReal) - (((k + 1 : ℤ) : ℝ) : EReal) = (((-(k + 1) : ℤ) : ℝ) : EReal) := by
      rw [zero_sub, ← EReal.coe_neg]; push_cast; rfl
    rw [hn]
    exact ⟨by rw [Ideal.exp2_coe]; congr 1; exact (Real.rpow_intCast 2 (k + 1)).symm,
      by rw [Ideal.exp2_coe]; congr 1; exact (Real.rpow_intCast 2 (-(k + 1))).symm⟩

theorem scale_eq (a : EReal) : scale a = Ideal.exp2 (expo a) := (scale_inv_eq a).1

theorem inv_eq (a : EReal) : inv a = Ideal.exp2 (0 - expo a) := (scale_inv_eq a).2

end Cert.Pow2
-- ==== Proof.Spec.lean ====
/- What the computation is, one token at a time and free of any program: a token's row `x` of 3072 numbers, the gains
   `g`, the weights `w k n` and the columns' scales `ws n`, all extended reals. -/
module

public import proofs.«01_k».proof.Proof.Pow2

@[expose] public section

noncomputable section

namespace Cert.Spec

open Idealize.ShloMosaic

/-- Column `l` of block `b`. -/
abbrev col (b : Fin 24) (l : Fin 128) : Fin 3072 := ⟨128 * b.val + l.val, by omega⟩

/-- Row `r` of head `hd`, of 48 heads. -/
abbrev hrow (hd : Fin 48) (r : Fin 96) : Fin 4608 := ⟨96 * hd.val + r.val, by omega⟩

/-- The greatest absolute value of a group. -/
def gmax {n : ℕ} (f : Fin n → EReal) : EReal :=
  Finset.univ.fold max (Ideal.ofBits .f32 0xFF800000#32) (fun k => max (f k) (-f k))

/-- A value clipped to [-448, 448]. -/
def clip (v : EReal) : EReal := min (Ideal.ofBits .f32 0x43E00000#32) (max (Ideal.ofBits .f32 0xC3E00000#32) v)

/-- One over the root of the row's mean square, with the small constant added. -/
def rinv (x : Fin 3072 → EReal) : EReal :=
  Ideal.rsqrt ((∑ k, x k * x k) * Ideal.ofBits .f32 0x39AAAAAB#32 + Ideal.ofBits .f32 0x358637BD#32)

/-- The normed row. -/
def nrm (x g : Fin 3072 → EReal) (k : Fin 3072) : EReal := x k * rinv x * g k

/-- The greatest absolute value of block `b` of the normed row. -/
def xmax (x g : Fin 3072 → EReal) (b : Fin 24) : EReal := gmax fun l => nrm x g (col b l)

/-- The codes of the normed row: entry `l` of block `b`. -/
def xcode (x g : Fin 3072 → EReal) (b : Fin 24) (l : Fin 128) : EReal := clip (nrm x g (col b l) * Pow2.inv (xmax x g b))

/-- The scales of the normed row. -/
def xscale (x g : Fin 3072 → EReal) (b : Fin 24) : EReal := Pow2.scale (xmax x g b)

/-- The block of a column. -/
abbrev blk (k : Fin 3072) : Fin 24 := ⟨k.val / 128, by omega⟩

/-- The place of a column in its block. -/
abbrev lane (k : Fin 3072) : Fin 128 := ⟨k.val % 128, by omega⟩

/-- The row that is multiplied by the weights: code times scale. -/
def xb (x g : Fin 3072 → EReal) (k : Fin 3072) : EReal := xcode x g (blk k) (lane k) * xscale x g (blk k)

/-- The projection. -/
def proj (x g : Fin 3072 → EReal) (w : Fin 3072 → Fin 4608 → EReal) (ws : Fin 4608 → EReal) (n : Fin 4608) : EReal :=
  (∑ k, xb x g k * w k n) * ws n

/-- The greatest absolute value of a head of the projection. -/
def hmax (x g : Fin 3072 → EReal) (w : Fin 3072 → Fin 4608 → EReal) (ws : Fin 4608 → EReal) (hd : Fin 48) : EReal :=
  gmax fun r => proj x g w ws (hrow hd r)

/-- The codes of a head of the projection. -/
def hcode (x g : Fin 3072 → EReal) (w : Fin 3072 → Fin 4608 → EReal) (ws : Fin 4608 → EReal) (hd : Fin 48) (r : Fin 96) :
    EReal := clip (proj x g w ws (hrow hd r) * Pow2.inv (hmax x g w ws hd))

/-- The scale of a head of the projection. -/
def hscale (x g : Fin 3072 → EReal) (w : Fin 3072 → Fin 4608 → EReal) (ws : Fin 4608 → EReal) (hd : Fin 48) : EReal :=
  Pow2.scale (hmax x g w ws hd)

end Cert.Spec

end
-- ==== Proof.Tile.lean ====
/- The vector steps of one quantised tile, named once and written over any float interpretation, and what each of them
   reads at an index once floats are extended reals. -/
module

public import proofs.«01_k».proof.Proof.Gen.KernelIdeal.Skeleton
public import proofs.«01_k».proof.Proof.Spec
public import Idealize.ShloMosaic.PureOps.Ideal.Laws
public import Idealize.ShloMosaic.Lib.Pointwise
public import Idealize.ShloMosaic.Lib.Tactic

@[expose] public section

set_option maxRecDepth 16384

noncomputable section

namespace Cert.Tile

open Idealize.ShloMosaic Idealize.ShloMosaic.TcCoe Cert.KernelIdeal Cert.KernelIdeal.Gen

variable {F : FTy → Type} [FloatOps F]

/-- One step of the search, elementwise. -/
def stepV {s : Shape} (c : BitVec 32) (x : FVec F s .f32) (b : IVec s 32) : IVec s 32 :=
  select (cmpf .olt x (bitcastToFloat .f32 (ori b (broadcast s c)))) b (ori b (broadcast s c))

/-- The search for the greatest power of two at most `x`, elementwise. -/
def searchV {s : Shape} (x : FVec F s .f32) : IVec s 32 :=
  stepV 8388608#32 x (stepV 16777216#32 x (stepV 33554432#32 x (stepV 67108864#32 x (stepV 134217728#32 x
    (stepV 268435456#32 x (stepV 536870912#32 x (stepV 1073741824#32 x (broadcast s 0#32))))))))

/-- The scale of the found pattern, elementwise. -/
def scaleV {s : Shape} (b : IVec s 32) : FVec F s .f32 :=
  bitcastToFloat .f32 (select (cmpi .eq b (broadcast s 0#32)) (broadcast s 1065353216#32) (addi b (broadcast s 8388608#32)))

/-- The inverse scale of the found pattern, elementwise. -/
def invV {s : Shape} (b : IVec s 32) : FVec F s .f32 :=
  bitcastToFloat .f32 (select (cmpi .eq b (broadcast s 0#32)) (broadcast s 1065353216#32) (subi (broadcast s 2122317824#32) b))

/-- A maximum absolute value scaled by 1/448 and capped, elementwise. -/
def cappedV {s : Shape} (a : FVec F s .f32) : FVec F s .f32 :=
  minimumf (mulf a (broadcast s (Scalar.ofBits .f32 0x3B124925#32))) (broadcast s (Scalar.ofBits .f32 0x7E000000#32))

/-- A value clipped to [-448, 448] and rounded to the code format, elementwise. -/
def codeV {s : Shape} (v : FVec F s .f32) : FVec F s .fp8e4m3 :=
  truncf .fp8e4m3 (minimumf (broadcast s (Scalar.ofBits .f32 0x43E00000#32))
    (maximumf (broadcast s (Scalar.ofBits .f32 0xC3E00000#32)) v)) bitsLt_fp8e4m3_f32

/-- The head tile: 96 rows of the product, each scaled by its weight column's scale. -/
def headV (acc : FVec F S384x256 .f32) (ws : FVec F S96x128 .f32) (off : Fin 2 → ℕ) (h : S384x256.Slices off S96x128) :
    FVec F S96x128 .f32 :=
  mulf (extractStridedSlice S96x128 off acc h) ws

/-- The searched pattern of a head tile, one per token, on eight equal rows. -/
def headBits (v : FVec F S96x128 .f32) : IVec S8x128 32 :=
  searchV (cappedV (broadcastTo S8x128 (shapeCast S1x128 (shapeCast S1x128
    (multiReduction .maximumf [0] S128 (absf v) 0xFF800000#32 reduces_S96x128_S128 (.inl rfl) rfl)
    shapeCasts_S128_S1x128) shapeCasts_S1x128_S1x128) broadcasts_S1x128_S8x128))

/-- The codes of a head tile. -/
def headCode (v : FVec F S96x128 .f32) : FVec F S96x128 .fp8e4m3 :=
  codeV (mulf v (broadcastTo S96x128 (extractStridedSlice S1x128 ![0, 0] (invV (headBits v)) slices_S8x128_o0_0_S1x128)
    broadcasts_S1x128_S96x128))

/-- The scales of a head tile. -/
def headScale (v : FVec F S96x128 .f32) : FVec F S1x128 .f32 :=
  extractStridedSlice S1x128 ![0, 0] (scaleV (headBits v)) slices_S8x128_o0_0_S1x128

/-- The product of 384 transposed weight rows with the 256 tokens of a block. -/
def prodV (w : FVec F S384x3072 .bf16) (xb : FVec F S256x3072 .bf16) : FVec F S384x256 .f32 :=
  matmul dot_S384x3072_S256x3072_S384x256_1_1_0_0_n_n none w xb (constant S384x256 .f32 0x00000000#32)

/-- A block of a token tile, as floats. -/
def xfV (x : Vec F S32x128 .bf16) : FVec F S32x128 .f32 :=
  extf .f32 (shapeCast S32x128 x shapeCasts_S32x128_S32x128 : FVec F S32x128 .bf16) bitsLt_bf16_f32

/-- A block of the gains, as floats. -/
def gfV (g : Vec F S1x128 .bf16) : FVec F S1x128 .f32 :=
  extf .f32 (shapeCast S1x128 g shapeCasts_S1x128_S1x128 : FVec F S1x128 .bf16) bitsLt_bf16_f32

/-- The sum of squares over the first blocks, lane by lane. -/
def ssV (X : ℕ → Vec F S32x128 .bf16) : ℕ → FVec F S32x128 .f32
  | 0 => broadcast S32x128 (Scalar.ofBits .f32 0x00000000#32)
  | n + 1 => addf (ssV X n) (mulf (xfV (X n)) (xfV (X n)))

/-- One over the root of the mean square, per token. -/
def rinvV (X : ℕ → Vec F S32x128 .bf16) : FVec F S32x1 .f32 :=
  rsqrt (addf (mulf (shapeCast S32x1 (multiReduction .add [1] S32 (ssV X 24) 0x00000000#32 reduces_S32x128_S32 (.inl rfl) rfl)
    shapeCasts_S32_S32x1) (broadcast S32x1 (Scalar.ofBits .f32 0x39AAAAAB#32)))
    (broadcast S32x1 (Scalar.ofBits .f32 0x358637BD#32)))

/-- A normed block. -/
def nrmV (r : FVec F S32x1 .f32) (x : Vec F S32x128 .bf16) (g : Vec F S1x128 .bf16) : FVec F S32x128 .f32 :=
  mulf (mulf (xfV x) (broadcastTo S32x128 r broadcasts_S32x1_S32x128)) (broadcastTo S32x128 (gfV g) broadcasts_S1x128_S32x128)

/-- The searched pattern of a normed block, one per token, on all lanes. -/
def qBits (h : FVec F S32x128 .f32) : IVec S32x128 32 :=
  searchV (cappedV (broadcastTo S32x128 (shapeCast S32x1 (shapeCast S32x1
    (multiReduction .maximumf [1] S32 (absf h) 0xFF800000#32 reduces_S32x128_S32 (.inl rfl) rfl)
    shapeCasts_S32_S32x1) shapeCasts_S32x1_S32x1) broadcasts_S32x1_S32x128))

/-- The codes of a normed block. -/
def qCode (h : FVec F S32x128 .f32) : FVec F S32x128 .fp8e4m3 := codeV (mulf h (invV (qBits h)))

/-- The scales of a normed block, on all lanes. -/
def qScale (h : FVec F S32x128 .f32) : FVec F S32x128 .f32 := scaleV (qBits h)

/-- Codes times scales of a normed block. -/
def qProd (h : FVec F S32x128 .f32) : FVec F S32x128 .bf16 :=
  shapeCast S32x128 (mulf (extf .bf16 (qCode h) bitsLt_fp8e4m3_bf16) (truncf .bf16 (qScale h) bitsLt_bf16_f32))
    shapeCasts_S32x128_S32x128

/-- The scales of the first blocks side by side: lane `b` holds block `b`'s. -/
def scAll (S : ℕ → FVec F S32x128 .f32) : ℕ → FVec F S32x128 .f32
  | 0 => broadcast S32x128 (Scalar.ofBits .f32 0x00000000#32)
  | n + 1 => select (cmpi .eq (iota .tc S32x128 32 [1] iota_S32x128_d1_w32) (broadcast S32x128 (BitVec.ofNat 32 n))) (S n) (scAll S n)

/-! ## At the extended reals -/

theorem stepV_apply {s : Shape} (c : BitVec 32) (x : FVec Ideal s .f32) (b : IVec s 32) (i : s.Idx) :
    stepV c x b i = Pow2.step c (x i) (b i) := rfl

theorem searchV_apply {s : Shape} (x : FVec Ideal s .f32) (i : s.Idx) : searchV x i = Pow2.search (x i) := by
  unfold searchV Pow2.search
  simp only [stepV_apply]
  rfl

theorem cappedV_apply {s : Shape} (a : FVec Ideal s .f32) (i : s.Idx) : cappedV a i = Pow2.capped (a i) := rfl

theorem scaleV_apply' {s : Shape} (b : IVec s 32) (i : s.Idx) :
    scaleV (F := Ideal) b i = Ideal.ofBits .f32 (Pow2.scaleBits (b i)) := rfl

theorem invV_apply' {s : Shape} (b : IVec s 32) (i : s.Idx) :
    invV (F := Ideal) b i = Ideal.ofBits .f32 (Pow2.invBits (b i)) := rfl

theorem scaleV_apply {s : Shape} (a : FVec Ideal s .f32) (i : s.Idx) :
    scaleV (F := Ideal) (searchV (cappedV a)) i = Pow2.scale (a i) := by
  rw [scaleV_apply', searchV_apply, cappedV_apply, Pow2.scale]

theorem invV_apply {s : Shape} (a : FVec Ideal s .f32) (i : s.Idx) :
    invV (F := Ideal) (searchV (cappedV a)) i = Pow2.inv (a i) := by
  rw [invV_apply', searchV_apply, cappedV_apply, Pow2.inv]

theorem codeV_apply {s : Shape} (v : FVec Ideal s .f32) (i : s.Idx) :
    codeV v i = min (Ideal.ofBits .f32 0x43E00000#32) (max (Ideal.ofBits .f32 0xC3E00000#32) (v i)) := rfl

theorem headV_apply (acc : FVec Ideal S384x256 .f32) (ws : FVec Ideal S96x128 .f32) (hh : Fin 4) (t : Fin 2)
    (h : S384x256.Slices ![96 * hh.val, 128 * t.val] S96x128) (r : Fin 96) (l : Fin 128) :
    headV acc ws ![96 * hh.val, 128 * t.val] h (ix2 r l)
      = acc (ix2 (⟨96 * hh.val + r.val, by omega⟩ : Fin 384) (⟨128 * t.val + l.val, by omega⟩ : Fin 256)) * ws (ix2 r l) := by
  pointwise [headV]

theorem headMax_apply (v : FVec Ideal S96x128 .f32) (r : Fin 8) (l : Fin 128) :
    (broadcastTo S8x128 (shapeCast S1x128 (shapeCast S1x128
    (multiReduction .maximumf [0] S128 (absf v) 0xFF800000#32 reduces_S96x128_S128 (.inl rfl) rfl)
    shapeCasts_S128_S1x128) shapeCasts_S1x128_S1x128) broadcasts_S1x128_S8x128) (ix2 r l)
      = Spec.gmax fun i : Fin 96 => v (ix2 i l) := by
  pointwise
  rfl

theorem headCode_apply (v : FVec Ideal S96x128 .f32) (r : Fin 96) (l : Fin 128) :
    headCode v (ix2 r l) = Spec.clip (v (ix2 r l) * Pow2.inv (Spec.gmax fun i : Fin 96 => v (ix2 i l))) := by
  unfold headCode
  rw [codeV_apply]
  pointwise
  rw [headBits, invV_apply, headMax_apply]
  rfl

theorem headScale_apply (v : FVec Ideal S96x128 .f32) (r : Fin 1) (l : Fin 128) :
    headScale v (ix2 r l) = Pow2.scale (Spec.gmax fun i : Fin 96 => v (ix2 i l)) := by
  unfold headScale
  pointwise
  rw [headBits, scaleV_apply, headMax_apply]

theorem prodV_apply (w : FVec Ideal S384x3072 .bf16) (xb : FVec Ideal S256x3072 .bf16) (r : Fin 384) (l : Fin 256) :
    prodV w xb (ix2 r l) = ∑ k : Fin 3072, w (ix2 r k) * xb (ix2 l k) := by
  pointwise [prodV]

theorem ssV_apply (X : ℕ → Vec Ideal S32x128 .bf16) (n : ℕ) (r : Fin 32) (l : Fin 128) :
    ssV X n (ix2 r l) = ∑ b ∈ Finset.range n, X b (ix2 r l) * X b (ix2 r l) := by
  induction n with
  | zero => rw [Finset.sum_range_zero]; pointwise [ssV]
  | succ n ih =>
    rw [Finset.sum_range_succ, ← ih]
    pointwise [ssV, xfV]

theorem rinvV_apply (X : ℕ → Vec Ideal S32x128 .bf16) (r : Fin 32) (z : Fin 1) :
    rinvV X (ix2 r z) = Ideal.rsqrt ((∑ l : Fin 128, ∑ b ∈ Finset.range 24, X b (ix2 r l) * X b (ix2 r l))
      * Ideal.ofBits .f32 0x39AAAAAB#32 + Ideal.ofBits .f32 0x358637BD#32) := by
  rw [← Finset.sum_congr rfl (fun l _ => ssV_apply X 24 r l)]
  pointwise [rinvV]

theorem nrmV_apply (ri : FVec Ideal S32x1 .f32) (x : Vec Ideal S32x128 .bf16) (g : Vec Ideal S1x128 .bf16) (r : Fin 32) (l : Fin 128) :
    nrmV ri x g (ix2 r l) = x (ix2 r l) * ri (ix2 r (0 : Fin 1)) * g (ix2 (0 : Fin 1) l) := by
  pointwise [nrmV, xfV, gfV]

theorem qMax_apply (h : FVec Ideal S32x128 .f32) (r : Fin 32) (l : Fin 128) :
    (broadcastTo S32x128 (shapeCast S32x1 (shapeCast S32x1
    (multiReduction .maximumf [1] S32 (absf h) 0xFF800000#32 reduces_S32x128_S32 (.inl rfl) rfl)
    shapeCasts_S32_S32x1) shapeCasts_S32x1_S32x1) broadcasts_S32x1_S32x128) (ix2 r l)
      = Spec.gmax fun i : Fin 128 => h (ix2 r i) := by
  pointwise
  rfl

theorem qCode_apply (h : FVec Ideal S32x128 .f32) (r : Fin 32) (l : Fin 128) :
    qCode h (ix2 r l) = Spec.clip (h (ix2 r l) * Pow2.inv (Spec.gmax fun i : Fin 128 => h (ix2 r i))) := by
  unfold qCode
  rw [codeV_apply]
  pointwise
  rw [qBits, invV_apply, qMax_apply]
  rfl

theorem qScale_apply (h : FVec Ideal S32x128 .f32) (r : Fin 32) (l : Fin 128) :
    qScale h (ix2 r l) = Pow2.scale (Spec.gmax fun i : Fin 128 => h (ix2 r i)) := by
  rw [qScale, qBits, scaleV_apply, qMax_apply]

theorem qProd_apply (h : FVec Ideal S32x128 .f32) (r : Fin 32) (l : Fin 128) :
    qProd h (ix2 r l) = qCode h (ix2 r l) * qScale h (ix2 r l) := by
  pointwise [qProd]

theorem scAll_apply (S : ℕ → FVec Ideal S32x128 .f32) (n : ℕ) (hn : n ≤ 128) (r : Fin 32) (l : Fin 128) (hl : l.val < n) :
    scAll S n (ix2 r l) = S l.val (ix2 r l) := by
  induction n with
  | zero => omega
  | succ n ih =>
    unfold scAll
    by_cases h : l.val = n
    · subst h
      pointwise
    · rw [← ih (by omega) (by omega)]
      pointwise
      have hne : IntOp.cmpi CmpIPredicate.eq (BitVec.ofNat 32 l.val) (BitVec.ofNat 32 n) = 0#1 := by
        have : ¬ BitVec.ofNat 32 l.val = BitVec.ofNat 32 n := by
          intro e
          have := congrArg BitVec.toNat e
          simp only [BitVec.toNat_ofNat] at this
          omega
        show BitVec.ofBool (BitVec.ofNat 32 l.val == BitVec.ofNat 32 n) = 0#1
        rw [beq_eq_false_iff_ne.mpr this]; rfl
      rw [hne]; rfl

end Cert.Tile

end
-- ==== Proof.Heads.lean ====
/- The head tiles of a block: their codes and scales, as the body stores them. -/
module

public import proofs.«01_k».proof.Proof.Tile

@[expose] public section

set_option maxRecDepth 65536

noncomputable section

namespace Cert.Heads

open Idealize.ShloMosaic Idealize.ShloMosaic.TcCoe Idealize.SL.Sem Cert.KernelIdeal Cert.KernelIdeal.Gen Cert.Tile

variable {F : FTy → Type} [FloatOps F]

theorem head_slices (h t : ℕ) : S384x256.Slices ![96 * (h % 4), 128 * (t % 2)] S96x128 := by
  refine ⟨by decide, ?_⟩
  intro a
  match a with
  | ⟨0, _⟩ => show 96 * (h % 4) + 96 ≤ 384; omega
  | ⟨1, _⟩ => show 128 * (t % 2) + 128 ≤ 256; omega

theorem code_inb (h t : ℕ) : ∀ a, ![96 * (h % 16), 128 * (t % 2)] a + S96x128.size a ≤ S1536x256.size a := by
  intro a
  match a with
  | ⟨0, _⟩ => show 96 * (h % 16) + 96 ≤ 1536; omega
  | ⟨1, _⟩ => show 128 * (t % 2) + 128 ≤ 256; omega

theorem scale_inb (h t : ℕ) : ∀ a, ![h % 16, 128 * (t % 2)] a + S1x128.size a ≤ S16x256.size a := by
  intro a
  match a with
  | ⟨0, _⟩ => show h % 16 + 1 ≤ 16; omega
  | ⟨1, _⟩ => show 128 * (t % 2) + 128 ≤ 256; omega

theorem w_inb (g : ℕ) : ∀ a, ![384 * (g % 12), 0] a + S384x3072.size a ≤ S4608x3072.size a := by
  intro a
  match a with
  | ⟨0, _⟩ => show 384 * (g % 12) + 384 ≤ 4608; omega
  | ⟨1, _⟩ => show 0 + 3072 ≤ 3072; omega

theorem s_inb (m : ℕ) : ∀ a, ![96 * (m % 48), 0] a + S96x128.size a ≤ S4608x128.size a := by
  intro a
  match a with
  | ⟨0, _⟩ => show 96 * (m % 48) + 96 ≤ 4608; omega
  | ⟨1, _⟩ => show 0 + 128 ≤ 128; omega

/-- The 384 turned weight rows of group `g`, which is four heads. -/
abbrev wrect (g : ℕ) : Rect S4608x3072 := Rect.unit (s := S4608x3072) ![384 * (g % 12), 0] S384x3072.size (w_inb g)

/-- The 96 rows of turned weight scales of head `m`. -/
abbrev srect (m : ℕ) : Rect S4608x128 := Rect.unit (s := S4608x128) ![96 * (m % 48), 0] S96x128.size (s_inb m)

variable (W : ℕ → FVec F S384x3072 .bf16) (S : ℕ → FVec F S96x128 .f32) (XB : FVec F S256x3072 .bf16)

/-- Head `m`'s tile of the scaled product, for the 128 tokens of half `t`. -/
def tile (m t : ℕ) : FVec F S96x128 .f32 :=
  headV (prodV (W (m / 4)) XB) (S m) ![96 * (m % 4), 128 * (t % 2)] (head_slices m t)

/-- The store of head `m`'s codes. -/
def pcCode (m t : ℕ) : View.Piece (Elt F) S1536x256 .fp8e4m3 :=
  ⟨Rect.unit (s := S1536x256) ![96 * (m % 16), 128 * (t % 2)] S96x128.size (code_inb m t), headCode (tile W S XB m t)⟩

/-- The store of head `m`'s scales. -/
def pcScale (m t : ℕ) : View.Piece (Elt F) S16x256 .f32 :=
  ⟨Rect.unit (s := S16x256) ![m % 16, 128 * (t % 2)] S1x128.size (scale_inb m t), headScale (tile W S XB m t)⟩

/-- The heads and halves in the order the piece lists hold them, last stored first. -/
def order : List (ℕ × ℕ) :=
  [(15, 1), (15, 0), (14, 1), (14, 0), (13, 1), (13, 0), (12, 1), (12, 0), (11, 1), (11, 0), (10, 1), (10, 0),
   (9, 1), (9, 0), (8, 1), (8, 0), (7, 1), (7, 0), (6, 1), (6, 0), (5, 1), (5, 0), (4, 1), (4, 0), (3, 1), (3, 0),
   (2, 1), (2, 0), (1, 1), (1, 0), (0, 1), (0, 0)]

/-- The stores of sixteen heads' codes, from head `m` on. -/
def codes (m : ℕ) : List (View.Piece (Elt F) S1536x256 .fp8e4m3) := order.map fun p => pcCode W S XB (m + p.1) p.2

/-- The stores of sixteen heads' scales, from head `m` on. -/
def scales (m : ℕ) : List (View.Piece (Elt F) S16x256 .f32) := order.map fun p => pcScale W S XB (m + p.1) p.2

end Cert.Heads

end
-- ==== Proof.HeadsVal.lean ====
/- What the stores of the head tiles leave: the codes and the scales of the projection. -/
module

public import proofs.«01_k».proof.Proof.Heads
public import Idealize.ShloMosaic.Lib.Pipeline.ValueKit

@[expose] public section

set_option maxRecDepth 65536

noncomputable section

namespace Cert.Heads

open Idealize.ShloMosaic Idealize.ShloMosaic.TcCoe Idealize.SL.Sem Cert.KernelIdeal Cert.KernelIdeal.Gen Cert.Tile

/-- The token of half `t` on lane `l`. -/
def tok (t : ℕ) (l : Fin 128) : Fin 256 := ⟨128 * (t % 2) + l.val, by omega⟩

variable (W : ℕ → FVec Ideal S384x3072 .bf16) (S : ℕ → FVec Ideal S96x128 .f32) (XB : FVec Ideal S256x3072 .bf16)
  (X : Fin 256 → Fin 3072 → EReal) (g : Fin 3072 → EReal) (w : Fin 3072 → Fin 4608 → EReal) (ws : Fin 4608 → EReal)

/-- The operands the head tiles are made of hold the turned weights, their scales and the dequantised tokens. -/
structure Holds : Prop where
  hW : ∀ (a : ℕ) (r : Fin 384) (k : Fin 3072), W a (ix2 r k) = w k ⟨384 * (a % 12) + r.val, by omega⟩
  hS : ∀ (m : ℕ) (r : Fin 96) (l : Fin 128), S m (ix2 r l) = ws ⟨96 * (m % 48) + r.val, by omega⟩
  hX : ∀ (t : Fin 256) (k : Fin 3072), XB (ix2 t k) = Spec.xb (X t) g k

variable {W S XB X g w ws}

/-- A head tile holds the projection. -/
theorem tile_apply (H : Holds W S XB X g w ws) (m t : ℕ) (hm : m < 48) (r : Fin 96) (l : Fin 128) :
    tile W S XB m t (ix2 r l) = Spec.proj (X (tok t l)) g w ws (Spec.hrow ⟨m, hm⟩ r) := by
  refine (headV_apply _ _ ⟨m % 4, by omega⟩ ⟨t % 2, by omega⟩ (head_slices m t) r l).trans ?_
  rw [prodV_apply, H.hS]
  have h1 : (⟨96 * (m % 48) + r.val, by omega⟩ : Fin 4608) = Spec.hrow ⟨m, hm⟩ r :=
    Fin.ext (by show 96 * (m % 48) + r.val = 96 * m + r.val; omega)
  rw [h1, Spec.proj]
  congr 1
  refine Finset.sum_congr rfl fun k _ => ?_
  rw [H.hW, H.hX, mul_comm]
  have h2 : (⟨384 * (m / 4 % 12) + (96 * (m % 4) + r.val), by omega⟩ : Fin 4608) = Spec.hrow ⟨m, hm⟩ r :=
    Fin.ext (by show 384 * (m / 4 % 12) + (96 * (m % 4) + r.val) = 96 * m + r.val; omega)
  exact congrArg₂ (· * ·) rfl (congrArg (w k) h2)

theorem tile_max (H : Holds W S XB X g w ws) (m t : ℕ) (hm : m < 48) (l : Fin 128) :
    (Spec.gmax fun i : Fin 96 => tile W S XB m t (ix2 i l)) = Spec.hmax (X (tok t l)) g w ws ⟨m, hm⟩ := by
  rw [Spec.hmax]
  congr 1
  exact funext fun i => tile_apply H m t hm i l

theorem code_apply (H : Holds W S XB X g w ws) (m t : ℕ) (hm : m < 48) (r : Fin 96) (l : Fin 128) :
    headCode (tile W S XB m t) (ix2 r l) = Spec.hcode (X (tok t l)) g w ws ⟨m, hm⟩ r := by
  rw [headCode_apply, tile_max H m t hm, tile_apply H m t hm, Spec.hcode]

theorem scale_apply (H : Holds W S XB X g w ws) (m t : ℕ) (hm : m < 48) (r : Fin 1) (l : Fin 128) :
    headScale (tile W S XB m t) (ix2 r l) = Spec.hscale (X (tok t l)) g w ws ⟨m, hm⟩ := by
  rw [headScale_apply, tile_max H m t hm, Spec.hscale]

theorem mem_order (p : ℕ × ℕ) : p ∈ order ↔ p.1 < 16 ∧ p.2 < 2 := by
  obtain ⟨a, b⟩ := p
  constructor
  · exact fun h => (by decide : ∀ p ∈ order, p.1 < 16 ∧ p.2 < 2) (a, b) h
  · rintro ⟨ha, hb⟩
    exact (by decide : ∀ a < 16, ∀ b < 2, (a, b) ∈ order) a ha b hb

theorem exists_half (t : Fin 256) : ∃ (a : ℕ) (l : Fin 128), a < 2 ∧ tok a l = t :=
  ⟨t.val / 128, ⟨t.val % 128, by omega⟩, by omega, Fin.ext (by show 128 * (t.val / 128 % 2) + t.val % 128 = t.val; omega)⟩

theorem code_emb (m t : ℕ) (hm : m < 48) (r : Fin 96) (l : Fin 128) :
    (Rect.unit (s := S1536x256) ![96 * (m % 16), 128 * (t % 2)] S96x128.size (code_inb m t)).emb (ix2 r l)
      = ix2 (⟨96 * (m % 16) + r.val, by omega⟩ : Fin 1536) (tok t l) := by
  funext a
  apply Fin.ext
  refine (Rect.idx_unit_val _ _ _ _ a).trans ?_
  match a with
  | ⟨0, _⟩ => rfl
  | ⟨1, _⟩ => rfl

theorem scale_emb (m t : ℕ) (r : Fin 1) (l : Fin 128) :
    (Rect.unit (s := S16x256) ![m % 16, 128 * (t % 2)] S1x128.size (scale_inb m t)).emb (ix2 r l)
      = ix2 (⟨m % 16, by omega⟩ : Fin 16) (tok t l) := by
  funext a
  apply Fin.ext
  refine (Rect.idx_unit_val _ _ _ _ a).trans ?_
  match a with
  | ⟨0, _⟩ => exact congrArg (m % 16 + ·) (by omega : r.val = 0)
  | ⟨1, _⟩ => rfl

/-- Sixteen heads' codes, from head `m` on, read back. -/
theorem codes_canon (H : Holds W S XB X g w ws) (m : ℕ) (hm : m % 16 = 0) (hm' : m + 16 ≤ 48) (h : Fin 16) (r : Fin 96)
    (t : Fin 256) :
    View.canon (codes W S XB m) (ix2 (⟨96 * h.val + r.val, by omega⟩ : Fin 1536) t)
      = Spec.hcode (X t) g w ws ⟨m + h.val, by omega⟩ r := by
  refine View.canon_eq_of_allAt _ _ _ ?_ ?_
  · obtain ⟨a, l, ha, rfl⟩ := exists_half t
    refine ⟨_, List.mem_map.2 ⟨(h.val, a), (mem_order _).2 ⟨h.isLt, ha⟩, rfl⟩, ?_⟩
    have e := code_emb (m + h.val) a (by omega) r l
    have e' : (⟨96 * ((m + h.val) % 16) + r.val, by omega⟩ : Fin 1536) = ⟨96 * h.val + r.val, by omega⟩ :=
      Fin.ext (by show 96 * ((m + h.val) % 16) + r.val = 96 * h.val + r.val; omega)
    rw [e'] at e
    rw [← e]
    exact LoadRect.idx_mem (Rect.toLoadRect _) _
  · intro q hq x hx
    obtain ⟨⟨a, b⟩, hp, rfl⟩ := List.mem_map.1 hq
    obtain ⟨ha, hb⟩ := (mem_order _).1 hp
    change a < 16 at ha
    change b < 2 at hb
    change S96x128.Idx at x
    obtain ⟨r', l, rfl⟩ : ∃ (r : Fin 96) (l : Fin 128), x = ix2 r l := ⟨x 0, x 1, eq_ix2 x⟩
    have e := (code_emb (m + a) b (by omega) r' l).symm.trans hx
    obtain ⟨e1, rfl⟩ := (ix2_inj _ _ _ _).1 e
    have e1 : 96 * ((m + a) % 16) + r'.val = 96 * h.val + r.val := congrArg Fin.val e1
    have ea : a = h.val := by omega
    subst ea
    have er : r' = r := Fin.ext (by omega)
    subst er
    exact code_apply H (m + h.val) b (by omega) r' l

/-- Sixteen heads' scales, from head `m` on, read back. -/
theorem scales_canon (H : Holds W S XB X g w ws) (m : ℕ) (hm : m % 16 = 0) (hm' : m + 16 ≤ 48) (h : Fin 16) (t : Fin 256) :
    View.canon (scales W S XB m) (ix2 h t) = Spec.hscale (X t) g w ws ⟨m + h.val, by omega⟩ := by
  refine View.canon_eq_of_allAt _ _ _ ?_ ?_
  · obtain ⟨a, l, ha, rfl⟩ := exists_half t
    refine ⟨_, List.mem_map.2 ⟨(h.val, a), (mem_order _).2 ⟨h.isLt, ha⟩, rfl⟩, ?_⟩
    have e := scale_emb (m + h.val) a 0 l
    have e' : (⟨(m + h.val) % 16, by omega⟩ : Fin 16) = h := Fin.ext (by show (m + h.val) % 16 = h.val; omega)
    rw [e'] at e
    rw [← e]
    exact LoadRect.idx_mem (Rect.toLoadRect _) _
  · intro q hq x hx
    obtain ⟨⟨a, b⟩, hp, rfl⟩ := List.mem_map.1 hq
    obtain ⟨ha, hb⟩ := (mem_order _).1 hp
    change a < 16 at ha
    change b < 2 at hb
    change S1x128.Idx at x
    obtain ⟨r', l, rfl⟩ : ∃ (r : Fin 1) (l : Fin 128), x = ix2 r l := ⟨x 0, x 1, eq_ix2 x⟩
    have e := (scale_emb (m + a) b r' l).symm.trans hx
    obtain ⟨e1, rfl⟩ := (ix2_inj _ _ _ _).1 e
    have e1 : (m + a) % 16 = h.val := congrArg Fin.val e1
    have ea : a = h.val := by omega
    subst ea
    exact scale_apply H (m + h.val) b (by omega) r' l

end Cert.Heads

end
-- ==== Proof.Point.lean ====
/- What one grid point leaves: the codes and scales of its 256 tokens, and the turned weights for the next point. -/
module

public import proofs.«01_k».proof.Proof.HeadsVal

@[expose] public section

set_option maxRecDepth 65536

noncomputable section

namespace Cert.Point

open Idealize.ShloMosaic Idealize.ShloMosaic.TcCoe Idealize.SL.Sem Cert.KernelIdeal Cert.KernelIdeal.Gen Cert.Tile

/-- What a grid point leaves: six blocks of the three projections' codes and scales, two of the tokens' codes and scales,
    and the two scratch arrays. -/
abbrev Outs : Type := Vec Ideal S1536x256 .fp8e4m3 × Vec Ideal S16x256 .f32 × Vec Ideal S1536x256 .fp8e4m3 × Vec Ideal S16x256 .f32
  × Vec Ideal S1536x256 .fp8e4m3 × Vec Ideal S16x256 .f32 × Vec Ideal S256x3072 .fp8e4m3 × Vec Ideal S24x256 .f32
  × Vec Ideal S4608x3072 .bf16 × Vec Ideal S4608x128 .f32

variable (X : Fin 256 → Fin 3072 → EReal) (g : Fin 3072 → EReal) (w : Fin 3072 → Fin 4608 → EReal) (ws : Fin 4608 → EReal)

/-- A block of codes of sixteen heads, from head `m` on. -/
def Codes (m : ℕ) (hm : m + 16 ≤ 48) (o : Vec Ideal S1536x256 .fp8e4m3) : Prop :=
  ∀ (h : Fin 16) (r : Fin 96) (t : Fin 256), o (ix2 (⟨96 * h.val + r.val, by omega⟩ : Fin 1536) t)
    = Spec.hcode (X t) g w ws ⟨m + h.val, by omega⟩ r

/-- A block of scales of sixteen heads, from head `m` on. -/
def Scales (m : ℕ) (hm : m + 16 ≤ 48) (o : Vec Ideal S16x256 .f32) : Prop :=
  ∀ (h : Fin 16) (t : Fin 256), o (ix2 h t) = Spec.hscale (X t) g w ws ⟨m + h.val, by omega⟩

/-- The turned weights. -/
def Turned (o : Vec Ideal S4608x3072 .bf16) : Prop := ∀ (n : Fin 4608) (k : Fin 3072), o (ix2 n k) = w k n

/-- The turned scales, on equal lanes. -/
def TurnedScales (o : Vec Ideal S4608x128 .f32) : Prop := ∀ (n : Fin 4608) (l : Fin 128), o (ix2 n l) = ws n

/-- A grid point's blocks hold what they should. -/
structure Good (o : Outs) : Prop where
  qc : Codes X g w ws 0 (by decide) o.1
  qs : Scales X g w ws 0 (by decide) o.2.1
  kc : Codes X g w ws 16 (by decide) o.2.2.1
  ks : Scales X g w ws 16 (by decide) o.2.2.2.1
  vc : Codes X g w ws 32 (by decide) o.2.2.2.2.1
  vs : Scales X g w ws 32 (by decide) o.2.2.2.2.2.1
  xc : ∀ (t : Fin 256) (k : Fin 3072), o.2.2.2.2.2.2.1 (ix2 t k) = Spec.xcode (X t) g (Spec.blk k) (Spec.lane k)
  xs : ∀ (b : Fin 24) (t : Fin 256), o.2.2.2.2.2.2.2.1 (ix2 b t) = Spec.xscale (X t) g b
  wt : Turned w o.2.2.2.2.2.2.2.2.1
  wss : TurnedScales ws o.2.2.2.2.2.2.2.2.2

/-- The blocks one by one. -/
theorem good_mk {X : Fin 256 → Fin 3072 → EReal} {g : Fin 3072 → EReal} {w : Fin 3072 → Fin 4608 → EReal} {ws : Fin 4608 → EReal}
    {o4 : Vec Ideal S1536x256 .fp8e4m3} {o5 : Vec Ideal S16x256 .f32} {o6 : Vec Ideal S1536x256 .fp8e4m3} {o7 : Vec Ideal S16x256 .f32}
    {o8 : Vec Ideal S1536x256 .fp8e4m3} {o9 : Vec Ideal S16x256 .f32} {o10 : Vec Ideal S256x3072 .fp8e4m3} {o11 : Vec Ideal S24x256 .f32}
    {s0 : Vec Ideal S4608x3072 .bf16} {s1 : Vec Ideal S4608x128 .f32}
    (h4 : Codes X g w ws 0 (by decide) o4) (h5 : Scales X g w ws 0 (by decide) o5) (h6 : Codes X g w ws 16 (by decide) o6)
    (h7 : Scales X g w ws 16 (by decide) o7) (h8 : Codes X g w ws 32 (by decide) o8) (h9 : Scales X g w ws 32 (by decide) o9)
    (h10 : ∀ (t : Fin 256) (k : Fin 3072), o10 (ix2 t k) = Spec.xcode (X t) g (Spec.blk k) (Spec.lane k))
    (h11 : ∀ (b : Fin 24) (t : Fin 256), o11 (ix2 b t) = Spec.xscale (X t) g b) (hw : Turned w s0) (hs : TurnedScales ws s1) :
    Good X g w ws (o4, o5, o6, o7, o8, o9, o10, o11, s0, s1) :=
  ⟨h4, h5, h6, h7, h8, h9, h10, h11, hw, hs⟩

/-- A rectangle at `off` of an array read through a whole memref. -/
theorem readAt_unread {S : Shape} {e : EltTy} (a : Memref sig .tc .vmem S e) (ha : a.IsWhole) (v : Vec Ideal S e)
    (off size : Fin S.rank → ℕ) (inb : ∀ i, off i + size i ≤ S.size i) (x : (⟨S.rank, size⟩ : Shape).Idx) (y : S.Idx)
    (h : ∀ i, (y i).val = off i + (x i).val) :
    View.readAt (Elt Ideal) a.view (Rect.unit (s := S) off size inb).toLoadRect (ha.unread v) x = v y := by
  rw [View.readAt_eq_ld, View.ld_unit_apply_of _ _ _ _ _ y h, Memref.IsWhole.read_unread]

/-- A rectangle at `off` of stored pieces. -/
theorem readCov_apply {S : Shape} {e : EltTy} (v : View sig .tc .vmem S e) (L : List (View.Piece (Elt Ideal) S e))
    (off size : Fin S.rank → ℕ) (inb : ∀ i, off i + size i ≤ S.size i) (x : (⟨S.rank, size⟩ : Shape).Idx) (y : S.Idx)
    (h : ∀ i, (y i).val = off i + (x i).val) :
    v.readCov L (Rect.unit (s := S) off size inb).toLoadRect x = View.canon L y := by
  rw [View.readCov_eq_canon']
  refine congrArg (View.canon L) (funext fun i => Fin.ext ?_)
  exact (Rect.idx_unit_val _ _ _ _ i).trans (h i).symm

/-- The two stores of the turned token scales. -/
theorem xscales_canon (v : View sig .tc .vmem S256x128 .f32) (L : List (View.Piece (Elt Ideal) S256x128 .f32))
    (f : Fin 256 → Fin 24 → EReal) (hL : ∀ (t : Fin 256) (b : Fin 24), View.canon L (ix2 t (⟨b.val, by omega⟩ : Fin 128)) = f t b)
    (b : Fin 24) (t : Fin 256) :
    View.canon (Val := Elt Ideal) (s := S24x256) (e := .f32) [⟨Rect.unit (s := S24x256) ![0, 128] S24x128.size inb_S24x256_S24x128_0_128, extractStridedSlice S24x128 ![0, 0] (transpose S128x128 [1, 0] (v.readCov L (Rect.unit (s := S256x128) ![128, 0] S128x128.size inb_S256x128_S128x128_128_0).toLoadRect) transposes_S128x128_p1_0_S128x128) slices_S128x128_o0_0_S24x128⟩,
         ⟨Rect.unit (s := S24x256) ![0, 0] S24x128.size inb_S24x256_S24x128_0_0, extractStridedSlice S24x128 ![0, 0] (transpose S128x128 [1, 0] (v.readCov L (Rect.unit (s := S256x128) ![0, 0] S128x128.size inb_S256x128_S128x128_0_0).toLoadRect) transposes_S128x128_p1_0_S128x128) slices_S128x128_o0_0_S24x128⟩] (ix2 b t) = f t b := by
  have key : ∀ (o : ℕ) (ho : ∀ a, ![o, 0] a + S128x128.size a ≤ S256x128.size a) (b : Fin 24) (l : Fin 128) (t : Fin 256),
      t.val = o + l.val →
      extractStridedSlice S24x128 ![0, 0] (transpose S128x128 [1, 0] (v.readCov L (Rect.unit (s := S256x128) ![o, 0] S128x128.size ho).toLoadRect) transposes_S128x128_p1_0_S128x128) slices_S128x128_o0_0_S24x128 (ix2 b l) = f t b := by
    intro o ho b l t ht
    have h1 : extractStridedSlice S24x128 ![0, 0] (transpose S128x128 [1, 0] (v.readCov L (Rect.unit (s := S256x128) ![o, 0] S128x128.size ho).toLoadRect) transposes_S128x128_p1_0_S128x128) slices_S128x128_o0_0_S24x128 (ix2 b l)
        = (v.readCov L (Rect.unit (s := S256x128) ![o, 0] S128x128.size ho).toLoadRect) (ix2 l (⟨b.val, by omega⟩ : Fin 128)) := by
      pointwise
    refine h1.trans (Eq.trans ?_ (hL t b))
    refine readCov_apply v L _ _ _ _ _ fun a => ?_
    match a with
    | ⟨0, _⟩ => exact ht
    | ⟨1, _⟩ => exact (Nat.zero_add _).symm
  have ext : ∀ (o : ℕ) (ho : ∀ a, ![0, o] a + S24x128.size a ≤ S24x256.size a) (r : Fin 24) (l : Fin 128) (hl : o + l.val < 256),
      (Rect.unit (s := S24x256) ![0, o] S24x128.size ho).emb (ix2 r l) = ix2 r (⟨o + l.val, hl⟩ : Fin 256) := by
    intro o ho r l hl
    funext a
    apply Fin.ext
    refine (Rect.idx_unit_val _ _ _ _ a).trans ?_
    match a with
    | ⟨0, _⟩ => exact Nat.zero_add _
    | ⟨1, _⟩ => rfl
  refine View.canon_eq_of_allAt _ _ _ ?_ ?_
  · by_cases ht : t.val < 128
    · refine ⟨_, List.mem_cons_of_mem _ List.mem_cons_self, ?_⟩
      have e := ext 0 inb_S24x256_S24x128_0_0 b ⟨t.val, ht⟩ (by show 0 + t.val < 256; omega)
      rw [show (⟨0 + t.val, by omega⟩ : Fin 256) = t from Fin.ext (Nat.zero_add _)] at e
      rw [← e]
      exact LoadRect.idx_mem (Rect.toLoadRect _) _
    · refine ⟨_, List.mem_cons_self, ?_⟩
      have e := ext 128 inb_S24x256_S24x128_0_128 b ⟨t.val - 128, by omega⟩ (by show 128 + (t.val - 128) < 256; omega)
      rw [show (⟨128 + (t.val - 128), by omega⟩ : Fin 256) = t from Fin.ext (by show 128 + (t.val - 128) = t.val; omega)] at e
      rw [← e]
      exact LoadRect.idx_mem (Rect.toLoadRect _) _
  · refine View.allAt_cons _ _ _ ?_ (View.allAt_cons _ _ _ ?_ (View.allAt_nil _ _))
    · intro x hx
      change S24x128.Idx at x
      obtain ⟨r, l, rfl⟩ : ∃ (r : Fin 24) (l : Fin 128), x = ix2 r l := ⟨x 0, x 1, eq_ix2 x⟩
      have e := (ext 128 inb_S24x256_S24x128_0_128 r l (by omega)).symm.trans hx
      obtain ⟨rfl, rfl⟩ := (ix2_inj _ _ _ _).1 e
      exact key 128 inb_S256x128_S128x128_128_0 r l _ rfl
    · intro x hx
      change S24x128.Idx at x
      obtain ⟨r, l, rfl⟩ : ∃ (r : Fin 24) (l : Fin 128), x = ix2 r l := ⟨x 0, x 1, eq_ix2 x⟩
      have e := (ext 0 inb_S24x256_S24x128_0_0 r l (by omega)).symm.trans hx
      obtain ⟨rfl, rfl⟩ := (ix2_inj _ _ _ _).1 e
      exact key 0 inb_S256x128_S128x128_0_0 r l _ rfl

/-- A block that is the sixteen heads' code stores. -/
theorem codes_of {W : ℕ → FVec Ideal S384x3072 .bf16} {S : ℕ → FVec Ideal S96x128 .f32} {XB : FVec Ideal S256x3072 .bf16}
    {X : Fin 256 → Fin 3072 → EReal} {g : Fin 3072 → EReal} {w : Fin 3072 → Fin 4608 → EReal} {ws : Fin 4608 → EReal}
    (H : Heads.Holds W S XB X g w ws) (m : ℕ) (hm : m + 16 ≤ 48) (h16 : m % 16 = 0)
    (v : View sig .tc .vmem S1536x256 .fp8e4m3) (L : List (View.Piece (Elt Ideal) S1536x256 .fp8e4m3))
    (hL : L = Heads.codes W S XB m) : Codes X g w ws m hm (v.read (Elt Ideal) (v.writes (Elt Ideal) v.junk L)) := by
  intro h r t
  rw [View.read_writes_junk_eq_canon, hL]
  exact Heads.codes_canon H m h16 hm h r t

/-- A block that is the sixteen heads' scale stores. -/
theorem scales_of {W : ℕ → FVec Ideal S384x3072 .bf16} {S : ℕ → FVec Ideal S96x128 .f32} {XB : FVec Ideal S256x3072 .bf16}
    {X : Fin 256 → Fin 3072 → EReal} {g : Fin 3072 → EReal} {w : Fin 3072 → Fin 4608 → EReal} {ws : Fin 4608 → EReal}
    (H : Heads.Holds W S XB X g w ws) (m : ℕ) (hm : m + 16 ≤ 48) (h16 : m % 16 = 0)
    (v : View sig .tc .vmem S16x256 .f32) (L : List (View.Piece (Elt Ideal) S16x256 .f32))
    (hL : L = Heads.scales W S XB m) : Scales X g w ws m hm (v.read (Elt Ideal) (v.writes (Elt Ideal) v.junk L)) := by
  intro h t
  rw [View.read_writes_junk_eq_canon, hL]
  exact Heads.scales_canon H m h16 hm h t

end Cert.Point

end
-- ==== Proof.Blocks.lean ====
/- What the kernel's input windows stage: sixteen blocks of 256 tokens, and the whole of the other three arguments. -/
module

public import proofs.«01_k».proof.Proof.Point
public import proofs.«01_k».proof.Proof.Gen.KernelIdeal.Frame
public import Idealize.ShloMosaic.Lib.Tactic
public import Idealize.ShloMosaic.Lib.Pipeline.ValueKit
public import Idealize.ShloMosaic.Lib.StableHlo.ReadAt

@[expose] public section

set_option maxRecDepth 65536

noncomputable section

namespace Cert.Blocks

open Idealize.ShloMosaic Idealize.ShloMosaic.TcCoe Idealize.SL.Sem Cert.KernelIdeal Cert.KernelIdeal.Gen

variable (m : (ℓ : Loc nD τ sig) → Buf (Elt Ideal) ℓ) (c : Dev nD)

/-- The tokens. -/
def xs (T : Fin 4096) (k : Fin 3072) : EReal := (m ((c : Thread nD τ).loc main_arg0) : Vec Ideal S1x4096x3072 .bf16) (ix3 (0 : Fin 1) T k)
/-- The gains. -/
def gs (k : Fin 3072) : EReal := (m ((c : Thread nD τ).loc main_arg1) : Vec Ideal S3072 .bf16) (ix1 k)
/-- The weights. -/
def wsr (k : Fin 3072) (n : Fin 4608) : EReal := (m ((c : Thread nD τ).loc main_arg2) : Vec Ideal S3072x4608 .fp8e4m3) (ix2 k n)
/-- The weights' scales. -/
def ss (n : Fin 4608) : EReal := (m ((c : Thread nD τ).loc main_arg3) : Vec Ideal S4608 .f32) (ix1 n)

theorem V_x (T : Fin 4096) (k : Fin 3072) : (V m c main_v0 : Vec Ideal S4096x3072 .bf16) (ix2 T k) = xs m c T k := by
  unfold V V0 xs
  after_reads_at

theorem V_g (k : Fin 3072) : (V m c main_v1 : Vec Ideal S1x3072 .bf16) (ix2 (0 : Fin 1) k) = gs m c k := by
  unfold V V0 gs
  after_reads_at

theorem V_s (n : Fin 4608) : (V m c main_v2 : Vec Ideal S1x4608 .f32) (ix2 (0 : Fin 1) n) = ss m c n := by
  unfold V V0 ss
  after_reads_at

/-- The place of token `tk` of block `t`. -/
def place (t : Fin cfg0.N) (tk : Fin 256) : Fin 4096 := ⟨256 * t.val + tk.val, by have := t.isLt; have h : cfg0.N = 16 := N_0; omega⟩

theorem idx : ∀ t : Fin cfg0.N, (cfg0.win 0).index t = ![t.val, 0] ∧ (cfg0.win 1).index t = ![0, 0] ∧ (cfg0.win 2).index t = ![0, 0] ∧ (cfg0.win 3).index t = ![0, 0] := by
  decide +kernel

theorem iblk_x (t : Fin cfg0.N) (tk : Fin 256) (k : Fin 3072) :
    (iblk m c 0 t : Vec Ideal S256x3072 .bf16) (ix2 tk k) = xs m c (place t tk) k := by
  rw [← V_x]
  blk_ext [iblk, V, (idx t).1]
  exact congrArg (· + tk.val) (Nat.mul_comm _ _)

theorem iblk_g (t : Fin cfg0.N) (k : Fin 3072) : (iblk m c 1 t : Vec Ideal S1x3072 .bf16) (ix2 (0 : Fin 1) k) = gs m c k := by
  rw [← V_g]
  blk_ext [iblk, V, (idx t).2.1]

theorem iblk_w (t : Fin cfg0.N) (k : Fin 3072) (n : Fin 4608) : (iblk m c 2 t : Vec Ideal S3072x4608 .fp8e4m3) (ix2 k n) = wsr m c k n := by
  unfold wsr
  rw [← V_main_arg2 m c]
  blk_ext [iblk, V, (idx t).2.2.1]

theorem iblk_s (t : Fin cfg0.N) (n : Fin 4608) : (iblk m c 3 t : Vec Ideal S1x4608 .f32) (ix2 (0 : Fin 1) n) = ss m c n := by
  rw [← V_s]
  blk_ext [iblk, V, (idx t).2.2.2]

end Cert.Blocks

end
-- ==== Proof.Quant.lean ====
/- What one trip of the quantising loop stores: 32 tokens' codes and products, block by block, and their scales. -/
module

public import proofs.«01_k».proof.Proof.Tile
public import proofs.«01_k».proof.Proof.Gen.KernelIdeal.Loops

@[expose] public section

set_option maxRecDepth 16384

noncomputable section

namespace Cert.Quant

open Idealize.ShloMosaic Idealize.ShloMosaic.TcCoe Idealize.SL.Sem Cert.KernelIdeal Cert.KernelIdeal.Gen Cert.Tile

variable {F : FTy → Type} [FloatOps F]

/-- Where block `b` of trip `k`'s tokens lies. -/
def qoff (k : Fin k0_t2_loop.trips) (b : ℕ) : Fin 2 → ℕ :=
  [k0_off27 k, k0_off28 k, k0_off29 k, k0_off30 k, k0_off31 k, k0_off32 k, k0_off33 k, k0_off34 k, k0_off35 k, k0_off36 k, k0_off37 k, k0_off38 k, k0_off39 k, k0_off40 k, k0_off41 k, k0_off42 k, k0_off43 k, k0_off44 k, k0_off45 k, k0_off46 k, k0_off47 k, k0_off48 k, k0_off49 k, k0_off50 k].getD b ![0, 0]

theorem trips_eq : k0_t2_loop.trips = 8 := by decide +kernel

theorem qoff_eq_fin : ∀ (k : Fin k0_t2_loop.trips) (b : Fin 24), qoff k b.val = ![32 * k.val, 128 * b.val] := by
  decide +kernel

theorem qoff_eq (k : Fin k0_t2_loop.trips) (b : ℕ) (hb : b < 24) : qoff k b = ![32 * k.val, 128 * b] :=
  qoff_eq_fin k ⟨b, hb⟩

theorem qoff_inb (k : Fin k0_t2_loop.trips) (b : ℕ) : ∀ a, qoff k b a + S32x128.size a ≤ S256x3072.size a := by
  have hk : k.val < 8 := trips_eq ▸ k.isLt
  by_cases hb : b < 24
  · rw [qoff_eq k b hb]
    intro a
    match a with
    | ⟨0, _⟩ => show 32 * k.val + 32 ≤ 256; omega
    | ⟨1, _⟩ => show 128 * b + 128 ≤ 3072; omega
  · have : qoff k b = ![0, 0] := by
      unfold qoff
      rw [List.getD_eq_getElem?_getD, List.getElem?_eq_none (by simpa using hb)]
      rfl
    rw [this]
    decide

theorem goff_inb (b : ℕ) : ∀ a, (![0, 128 * (b % 24)] : Fin 2 → ℕ) a + S1x128.size a ≤ S1x3072.size a := fun a =>
  match a with
  | ⟨0, _⟩ => by show 0 + 1 ≤ 1; omega
  | ⟨1, _⟩ => by show 128 * (b % 24) + 128 ≤ 3072; omega

variable (arg1 : Memref sig .tc .vmem S256x3072 .bf16) (arg2 : Memref sig .tc .vmem S1x3072 .bf16)
  (X1 : BufTy.Contents (Elt F) arg1.view.ty) (X2 : BufTy.Contents (Elt F) arg2.view.ty)

/-- Block `b` of trip `k`'s tokens. -/
def xrd (k : Fin k0_t2_loop.trips) (b : ℕ) : Vec F S32x128 .bf16 :=
  View.readAt (Elt F) arg1.view (Rect.unit (s := S256x3072) (qoff k b) S32x128.size (qoff_inb k b)).toLoadRect X1

/-- Block `b` of the gains. -/
def grd (b : ℕ) : Vec F S1x128 .bf16 :=
  View.readAt (Elt F) arg2.view (Rect.unit (s := S1x3072) ![0, 128 * (b % 24)] S1x128.size (goff_inb b)).toLoadRect X2

/-- Block `b` of trip `k`'s normed tokens. -/
def hblk (k : Fin k0_t2_loop.trips) (b : ℕ) : FVec F S32x128 .f32 :=
  nrmV (rinvV (xrd arg1 X1 k)) (xrd arg1 X1 k b) (grd arg2 X2 b)

/-- The codes stored for block `b`. -/
def pcCode (k : Fin k0_t2_loop.trips) (b : ℕ) : View.Piece (Elt F) S256x3072 .fp8e4m3 :=
  ⟨Rect.unit (s := S256x3072) (qoff k b) S32x128.size (qoff_inb k b), qCode (hblk arg1 arg2 X1 X2 k b)⟩

/-- The products stored for block `b`. -/
def pcProd (k : Fin k0_t2_loop.trips) (b : ℕ) : View.Piece (Elt F) S256x3072 .bf16 :=
  ⟨Rect.unit (s := S256x3072) (qoff k b) S32x128.size (qoff_inb k b), qProd (hblk arg1 arg2 X1 X2 k b)⟩

theorem soff_eq : ∀ k : Fin k0_t2_loop.trips, k0_off51 k = ![32 * k.val, 0] := by decide +kernel

theorem soff_inb (k : Fin k0_t2_loop.trips) : ∀ a, k0_off51 k a + S32x128.size a ≤ S256x128.size a := by
  have hk : k.val < 8 := trips_eq ▸ k.isLt
  rw [soff_eq k]
  intro a
  match a with
  | ⟨0, _⟩ => show 32 * k.val + 32 ≤ 256; omega
  | ⟨1, _⟩ => show 0 + 128 ≤ 128; omega

/-- The scales stored by trip `k`. -/
def pcScale (k : Fin k0_t2_loop.trips) : View.Piece (Elt F) S256x128 .f32 :=
  ⟨Rect.unit (s := S256x128) (k0_off51 k) S32x128.size (soff_inb k),
    shapeCast S32x128 (scAll (fun b => qScale (hblk arg1 arg2 X1 X2 k b)) 24) shapeCasts_S32x128_S32x128⟩

/-- The blocks in the order the piece lists hold them, last stored first. -/
def blocks : List ℕ := [23, 22, 21, 20, 19, 18, 17, 16, 15, 14, 13, 12, 11, 10, 9, 8, 7, 6, 5, 4, 3, 2, 1, 0]

end Cert.Quant

end
-- ==== Proof.QuantTrip.lean ====
/- The quantising loop's trip stores the pieces `Quant` names. -/
module

public import proofs.«01_k».proof.Proof.Quant

@[expose] public section

set_option maxRecDepth 65536
set_option maxHeartbeats 4000000

noncomputable section

namespace Cert.Quant

open Idealize.ShloMosaic Idealize.ShloMosaic.TcCoe Idealize.SL.Sem Cert.KernelIdeal Cert.KernelIdeal.Gen Cert.Tile

variable {F : FTy → Type} [FloatOps F]

theorem trip_eq (𝒱 : Variants) (c : Dev nD) (bd : Option 𝒱.V) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (X1 : BufTy.Contents (Elt F) arg1.view.ty) (X2 : BufTy.Contents (Elt F) arg2.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 k
      = (blocks.map (pcCode arg1 arg2 X1 X2 k), blocks.map (pcProd arg1 arg2 X1 X2 k), [pcScale arg1 arg2 X1 X2 k]) := by
  sl_kernel_rfl

end Cert.Quant

end
-- ==== Proof.QuantVal.lean ====
/- What the quantising loop leaves: at every token and column the code, the product and the scale of `Spec`. -/
module

public import proofs.«01_k».proof.Proof.QuantTrip
public import Idealize.ShloMosaic.Lib.Pipeline.ValueKit

@[expose] public section

set_option maxRecDepth 65536

noncomputable section

namespace Cert.Quant

open Idealize.ShloMosaic Idealize.ShloMosaic.TcCoe Idealize.SL.Sem Cert.KernelIdeal Cert.KernelIdeal.Gen Cert.Tile

/-- Token `t`'s row of a block. -/
abbrev row (x : Vec Ideal S256x3072 .bf16) (t : Fin 256) : Fin 3072 → EReal := fun k => x (ix2 t k)

/-- The gains' row. -/
abbrev grow (g : Vec Ideal S1x3072 .bf16) : Fin 3072 → EReal := fun k => g (ix2 (0 : Fin 1) k)

/-- A sum over a row is the sum over lanes of the sums over blocks. -/
theorem sum_blocks (f : Fin 3072 → EReal) (f' : ℕ → Fin 128 → EReal) (h : ∀ (b : Fin 24) (l : Fin 128), f' b.val l = f (Spec.col b l)) :
    ∑ l : Fin 128, ∑ b ∈ Finset.range 24, f' b l = ∑ k, f k := by
  rw [Fin.sum_univ_tiles 24 128 rfl, Finset.sum_comm, Finset.sum_range]
  refine Finset.sum_congr rfl fun b _ => Finset.sum_congr rfl fun l _ => ?_
  rw [h]
  congr 1
  apply Fin.ext
  show 128 * b.val + l.val = _
  simp [Nat.mul_comm]

section
variable (arg1 : Memref sig .tc .vmem S256x3072 .bf16) (arg2 : Memref sig .tc .vmem S1x3072 .bf16)
  (X1 : BufTy.Contents (Elt Ideal) arg1.view.ty) (X2 : BufTy.Contents (Elt Ideal) arg2.view.ty)

theorem lt_trips (k : Fin k0_t2_loop.trips) : k.val < 8 := trips_eq ▸ k.isLt

/-- Token `r` of trip `k`. -/
abbrev tok (k : Fin k0_t2_loop.trips) (r : Fin 32) : Fin 256 := ⟨32 * k.val + r.val, by have := lt_trips k; omega⟩

theorem xrd_apply (k : Fin k0_t2_loop.trips) (b : Fin 24) (r : Fin 32) (l : Fin 128) :
    xrd arg1 X1 k b.val (ix2 r l) = row (arg1.view.read (Elt Ideal) X1) (tok k r) (Spec.col b l) := by
  refine View.ld_unit_apply_of (arg1.view.read (Elt Ideal) X1) _ _ _ _ _ fun a => ?_
  refine Eq.trans ?_ (congrArg (· + (ix2 r l a).val) (congrFun (qoff_eq k b.val b.isLt) a).symm)
  match a with
  | ⟨0, _⟩ => rfl
  | ⟨1, _⟩ => rfl

theorem grd_apply (b : Fin 24) (l : Fin 128) :
    grd arg2 X2 b.val (ix2 (0 : Fin 1) l) = grow (arg2.view.read (Elt Ideal) X2) (Spec.col b l) := by
  refine View.ld_unit_apply_of (arg2.view.read (Elt Ideal) X2) _ _ _ _ _ fun a => ?_
  have hb : b.val % 24 = b.val := Nat.mod_eq_of_lt b.isLt
  match a with
  | ⟨0, _⟩ => rfl
  | ⟨1, _⟩ => show 128 * b.val + l.val = 128 * (b.val % 24) + l.val; rw [hb]

/-- A normed block, at an index. -/
theorem hblk_apply (k : Fin k0_t2_loop.trips) (b : Fin 24) (r : Fin 32) (l : Fin 128) :
    hblk arg1 arg2 X1 X2 k b.val (ix2 r l)
      = Spec.nrm (row (arg1.view.read (Elt Ideal) X1) (tok k r)) (grow (arg2.view.read (Elt Ideal) X2)) (Spec.col b l) := by
  unfold hblk
  rw [nrmV_apply, rinvV_apply, xrd_apply, grd_apply]
  unfold Spec.nrm Spec.rinv
  rw [sum_blocks (fun k' => row (arg1.view.read (Elt Ideal) X1) (tok k r) k' * row (arg1.view.read (Elt Ideal) X1) (tok k r) k')
    (fun b l => xrd arg1 X1 k b (ix2 r l) * xrd arg1 X1 k b (ix2 r l)) (fun b l => by simp only [xrd_apply])]

/-- The greatest absolute value of a normed block of a token. -/
theorem hblk_max (k : Fin k0_t2_loop.trips) (b : Fin 24) (r : Fin 32) :
    (Spec.gmax fun i : Fin 128 => hblk arg1 arg2 X1 X2 k b.val (ix2 r i))
      = Spec.xmax (row (arg1.view.read (Elt Ideal) X1) (tok k r)) (grow (arg2.view.read (Elt Ideal) X2)) b := by
  unfold Spec.xmax
  simp only [hblk_apply]

theorem code_apply (k : Fin k0_t2_loop.trips) (b : Fin 24) (r : Fin 32) (l : Fin 128) :
    qCode (hblk arg1 arg2 X1 X2 k b.val) (ix2 r l)
      = Spec.xcode (row (arg1.view.read (Elt Ideal) X1) (tok k r)) (grow (arg2.view.read (Elt Ideal) X2)) b l := by
  rw [qCode_apply, hblk_max, hblk_apply]; rfl

theorem scale_apply (k : Fin k0_t2_loop.trips) (b : Fin 24) (r : Fin 32) (l : Fin 128) :
    qScale (hblk arg1 arg2 X1 X2 k b.val) (ix2 r l)
      = Spec.xscale (row (arg1.view.read (Elt Ideal) X1) (tok k r)) (grow (arg2.view.read (Elt Ideal) X2)) b := by
  rw [qScale_apply, hblk_max]; rfl

end

section
variable (𝒱 : Variants) (c : Dev nD) (bd : Option 𝒱.V) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (X1 : BufTy.Contents (Elt Ideal) arg1.view.ty) (X2 : BufTy.Contents (Elt Ideal) arg2.view.ty)

/-- The loop's piece lists after all trips. -/
abbrev pb : List (View.Piece (Elt Ideal) S256x3072 .fp8e4m3) × List (View.Piece (Elt Ideal) S256x3072 .bf16) × List (View.Piece (Elt Ideal) S256x128 .f32) :=
  pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 k0_t2_loop.trips

theorem mem_pb (n : ℕ) (hn : n ≤ k0_t2_loop.trips) :
    let p := pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 n
    (∀ q, q ∈ p.1 ↔ ∃ k : Fin k0_t2_loop.trips, k.val < n ∧ ∃ b : Fin 24, q = pcCode arg1 arg2 X1 X2 k b.val)
    ∧ (∀ q, q ∈ p.2.1 ↔ ∃ k : Fin k0_t2_loop.trips, k.val < n ∧ ∃ b : Fin 24, q = pcProd arg1 arg2 X1 X2 k b.val)
    ∧ (∀ q, q ∈ p.2.2 ↔ ∃ k : Fin k0_t2_loop.trips, k.val < n ∧ q = pcScale arg1 arg2 X1 X2 k) := by
  have hblocks : ∀ b : ℕ, b ∈ blocks ↔ b < 24 := by
    intro b
    constructor
    · exact fun h => (by decide : ∀ b ∈ blocks, b < 24) b h
    · exact fun h => (by decide : ∀ b < 24, b ∈ blocks) b h
  have hmap : ∀ {α : Type} (f : ℕ → α) (q : α), q ∈ blocks.map f ↔ ∃ b : Fin 24, q = f b.val := by
    intro α f q
    rw [List.mem_map]
    constructor
    · rintro ⟨b, hb, rfl⟩
      exact ⟨⟨b, (hblocks b).1 hb⟩, rfl⟩
    · rintro ⟨b, rfl⟩
      exact ⟨b.val, (hblocks _).2 b.isLt, rfl⟩
  induction n with
  | zero =>
    refine ⟨?_, ?_, ?_⟩ <;> intro q <;> simp [pb_k0_t2]
  | succ n ih =>
    have ih := ih (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 ⟨n, hn⟩
    rw [trip_eq] at hs
    have step : ∀ (P : Fin k0_t2_loop.trips → Prop), (∃ k : Fin k0_t2_loop.trips, k.val < n + 1 ∧ P k)
        ↔ P ⟨n, hn⟩ ∨ ∃ k : Fin k0_t2_loop.trips, k.val < n ∧ P k := by
      intro P
      constructor
      · rintro ⟨k, hk, h⟩
        rcases Nat.lt_succ_iff_lt_or_eq.1 hk with h' | h'
        · exact .inr ⟨k, h', h⟩
        · left
          have : k = ⟨n, hn⟩ := Fin.ext h'
          exact this ▸ h
      · rintro (h | ⟨k, hk, h⟩)
        · exact ⟨⟨n, hn⟩, Nat.lt_succ_self n, h⟩
        · exact ⟨k, Nat.lt_succ_of_lt hk, h⟩
    dsimp only at hs ⊢
    rw [hs]
    refine ⟨fun q => ?_, fun q => ?_, fun q => ?_⟩
    · rw [List.mem_append, ih.1, step, hmap]
    · rw [List.mem_append, ih.2.1, step, hmap]
    · rw [List.mem_append, ih.2.2, step, List.mem_singleton]

end

end Cert.Quant

end
-- ==== Proof.QuantCanon.lean ====
/- The quantising loop's stores, read back: the codes' array, the products' scratch and the scales' scratch. -/
module

public import proofs.«01_k».proof.Proof.QuantVal

@[expose] public section

set_option maxRecDepth 65536

noncomputable section

namespace Cert.Quant

open Idealize.ShloMosaic Idealize.ShloMosaic.TcCoe Idealize.SL.Sem Cert.KernelIdeal Cert.KernelIdeal.Gen Cert.Tile

/-- An index of a block tile is a token and a column. -/
theorem tile_emb (k : Fin k0_t2_loop.trips) (b : Fin 24) (r : Fin 32) (l : Fin 128) :
    (Rect.unit (s := S256x3072) (qoff k b.val) S32x128.size (qoff_inb k b.val)).emb (ix2 r l) = ix2 (tok k r) (Spec.col b l) := by
  funext a
  apply Fin.ext
  refine (Rect.idx_unit_val _ _ _ _ a).trans ?_
  refine (congrArg (· + (ix2 r l a).val) (congrFun (qoff_eq k b.val b.isLt) a)).trans ?_
  match a with
  | ⟨0, _⟩ => rfl
  | ⟨1, _⟩ => rfl

theorem srow_emb (k : Fin k0_t2_loop.trips) (r : Fin 32) (l : Fin 128) :
    (Rect.unit (s := S256x128) (k0_off51 k) S32x128.size (soff_inb k)).emb (ix2 r l) = ix2 (tok k r) l := by
  funext a
  apply Fin.ext
  refine (Rect.idx_unit_val _ _ _ _ a).trans ?_
  refine (congrArg (· + (ix2 r l a).val) (congrFun (soff_eq k) a)).trans ?_
  match a with
  | ⟨0, _⟩ => rfl
  | ⟨1, _⟩ => exact Nat.zero_add _

theorem blk_col (b : Fin 24) (l : Fin 128) : Spec.blk (Spec.col b l) = b := by
  apply Fin.ext; show (128 * b.val + l.val) / 128 = b.val; omega

theorem lane_col (b : Fin 24) (l : Fin 128) : Spec.lane (Spec.col b l) = l := by
  apply Fin.ext; show (128 * b.val + l.val) % 128 = l.val; omega

theorem col_blk (j : Fin 3072) : Spec.col (Spec.blk j) (Spec.lane j) = j := by
  apply Fin.ext; show 128 * (j.val / 128) + j.val % 128 = j.val; omega

/-- Every token is a row of some trip. -/
theorem exists_tok (t : Fin 256) : ∃ (k : Fin k0_t2_loop.trips) (r : Fin 32), tok k r = t := by
  have h := trips_eq
  exact ⟨⟨t.val / 32, by rw [h]; omega⟩, ⟨t.val % 32, by omega⟩, Fin.ext (by show 32 * (t.val / 32) + t.val % 32 = t.val; omega)⟩

variable (𝒱 : Variants) (c : Dev nD) (bd : Option 𝒱.V) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (X1 : BufTy.Contents (Elt Ideal) arg1.view.ty) (X2 : BufTy.Contents (Elt Ideal) arg2.view.ty)

theorem code_canon (t : Fin 256) (j : Fin 3072) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 k0_t2_loop.trips).1 (ix2 t j)
      = Spec.xcode (row (arg1.view.read (Elt Ideal) X1) t) (grow (arg2.view.read (Elt Ideal) X2)) (Spec.blk j) (Spec.lane j) := by
  have hm := (mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 _ le_rfl).1
  refine View.canon_apply_of_pieces (Val := Elt Ideal) (e := .fp8e4m3) (G := fun y : S256x3072.Idx => Spec.xcode (row (arg1.view.read (Elt Ideal) X1) (y 0))
    (grow (arg2.view.read (Elt Ideal) X2)) (Spec.blk (y 1)) (Spec.lane (y 1))) _ ?_ (ix2 t j) ?_
  · intro q hq x
    obtain ⟨k, _, b, rfl⟩ := (hm q).1 hq
    change S32x128.Idx at x
    obtain ⟨r, l, rfl⟩ : ∃ (r : Fin 32) (l : Fin 128), x = ix2 r l := ⟨x 0, x 1, eq_ix2 x⟩
    refine (code_apply arg1 arg2 X1 X2 k b r l).trans ?_
    have e := tile_emb k b r l
    show _ = Spec.xcode (row (arg1.view.read (Elt Ideal) X1) ((Rect.unit (s := S256x3072) (qoff k b.val) S32x128.size (qoff_inb k b.val)).emb (ix2 r l) 0))
      (grow (arg2.view.read (Elt Ideal) X2)) (Spec.blk ((Rect.unit (s := S256x3072) (qoff k b.val) S32x128.size (qoff_inb k b.val)).emb (ix2 r l) 1)) (Spec.lane ((Rect.unit (s := S256x3072) (qoff k b.val) S32x128.size (qoff_inb k b.val)).emb (ix2 r l) 1))
    rw [e, ix2_0, ix2_1, blk_col, lane_col]
  · obtain ⟨k, r, rfl⟩ := exists_tok t
    refine ⟨_, (hm _).2 ⟨k, k.isLt, Spec.blk j, rfl⟩, ?_⟩
    have e := tile_emb k (Spec.blk j) r (Spec.lane j)
    rw [col_blk] at e
    rw [← e]
    exact LoadRect.idx_mem (Rect.toLoadRect _) _

theorem prod_canon (t : Fin 256) (j : Fin 3072) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 k0_t2_loop.trips).2.1 (ix2 t j)
      = Spec.xb (row (arg1.view.read (Elt Ideal) X1) t) (grow (arg2.view.read (Elt Ideal) X2)) j := by
  have hm := (mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 _ le_rfl).2.1
  refine View.canon_apply_of_pieces (Val := Elt Ideal) (e := .bf16) (G := fun y : S256x3072.Idx => Spec.xb (row (arg1.view.read (Elt Ideal) X1) (y 0))
    (grow (arg2.view.read (Elt Ideal) X2)) (y 1)) _ ?_ (ix2 t j) ?_
  · intro q hq x
    obtain ⟨k, _, b, rfl⟩ := (hm q).1 hq
    change S32x128.Idx at x
    obtain ⟨r, l, rfl⟩ : ∃ (r : Fin 32) (l : Fin 128), x = ix2 r l := ⟨x 0, x 1, eq_ix2 x⟩
    refine (qProd_apply _ r l).trans ?_
    rw [code_apply, scale_apply]
    have e := tile_emb k b r l
    show _ = Spec.xb (row (arg1.view.read (Elt Ideal) X1) ((Rect.unit (s := S256x3072) (qoff k b.val) S32x128.size (qoff_inb k b.val)).emb (ix2 r l) 0))
      (grow (arg2.view.read (Elt Ideal) X2)) ((Rect.unit (s := S256x3072) (qoff k b.val) S32x128.size (qoff_inb k b.val)).emb (ix2 r l) 1)
    rw [e, ix2_0, ix2_1, Spec.xb, blk_col, lane_col]
  · obtain ⟨k, r, rfl⟩ := exists_tok t
    refine ⟨_, (hm _).2 ⟨k, k.isLt, Spec.blk j, rfl⟩, ?_⟩
    have e := tile_emb k (Spec.blk j) r (Spec.lane j)
    rw [col_blk] at e
    rw [← e]
    exact LoadRect.idx_mem (Rect.toLoadRect _) _

theorem scale_canon (t : Fin 256) (b : Fin 24) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) X1 X2 k0_t2_loop.trips).2.2
        (ix2 t (⟨b.val, by omega⟩ : Fin 128))
      = Spec.xscale (row (arg1.view.read (Elt Ideal) X1) t) (grow (arg2.view.read (Elt Ideal) X2)) b := by
  have hm := (mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 _ le_rfl).2.2
  refine View.canon_eq_of_allAt _ _ _ ?_ ?_
  · obtain ⟨k, r, rfl⟩ := exists_tok t
    refine ⟨_, (hm _).2 ⟨k, k.isLt, rfl⟩, ?_⟩
    rw [← srow_emb k r]
    exact LoadRect.idx_mem (Rect.toLoadRect _) _
  · intro q hq x hx
    obtain ⟨k, _, rfl⟩ := (hm q).1 hq
    change S32x128.Idx at x
    obtain ⟨r, l, rfl⟩ : ∃ (r : Fin 32) (l : Fin 128), x = ix2 r l := ⟨x 0, x 1, eq_ix2 x⟩
    have e : ix2 (tok k r) l = ix2 t (⟨b.val, by omega⟩ : Fin 128) := (srow_emb k r l).symm.trans hx
    obtain ⟨rfl, rfl⟩ := (ix2_inj _ _ _ _).1 e
    have hc : shapeCast S32x128 (scAll (fun b => qScale (hblk arg1 arg2 X1 X2 k b)) 24) shapeCasts_S32x128_S32x128
        (ix2 r (⟨b.val, by omega⟩ : Fin 128)) = scAll (fun b => qScale (hblk arg1 arg2 X1 X2 k b)) 24 (ix2 r (⟨b.val, by omega⟩ : Fin 128)) := by
      pointwise
    refine hc.trans ?_
    rw [scAll_apply _ 24 (by omega) r _ b.isLt]
    exact scale_apply arg1 arg2 X1 X2 k b r _

end Cert.Quant

end
-- ==== Proof.RunsA.lean ====
/- The stores of one grid point, for a point that turns the weights first, as lists of pieces. -/
module

public import proofs.«01_k».proof.Proof.Heads
public import proofs.«01_k».proof.Proof.Gen.KernelIdeal.Frame.RunA

@[expose] public section

set_option maxRecDepth 65536
set_option maxHeartbeats 4000000

noncomputable section

namespace Cert.Runs

open Idealize.ShloMosaic Idealize.ShloMosaic.TcCoe Idealize.SL.Sem Cert.KernelIdeal Cert.KernelIdeal.Gen Cert.Tile

variable {F : FTy → Type} [FloatOps F]

variable (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (hc0 : cond0_0 i)
  (x0 : Vec F S256x3072 .bf16) (x1 : Vec F S1x3072 .bf16) (x2 : Vec F S3072x4608 .fp8e4m3) (x3 : Vec F S1x4608 .f32)

/-- The stores of the q codes. -/
theorem codes_q_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).1
      = Heads.codes (fun g => arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect) (fun m => arg14.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 0 := by
  sl_kernel_rfl

/-- The stores of the q scales. -/
theorem scales_q_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.1
      = Heads.scales (fun g => arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect) (fun m => arg14.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 0 := by
  sl_kernel_rfl

/-- The stores of the k codes. -/
theorem codes_k_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.1
      = Heads.codes (fun g => arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect) (fun m => arg14.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 16 := by
  sl_kernel_rfl

/-- The stores of the k scales. -/
theorem scales_k_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.1
      = Heads.scales (fun g => arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect) (fun m => arg14.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 16 := by
  sl_kernel_rfl

/-- The stores of the v codes. -/
theorem codes_v_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.1
      = Heads.codes (fun g => arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect) (fun m => arg14.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 32 := by
  sl_kernel_rfl

/-- The stores of the v scales. -/
theorem scales_v_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.1
      = Heads.scales (fun g => arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect) (fun m => arg14.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 32 := by
  sl_kernel_rfl

/-- The stores of the normalised tokens' codes. -/
theorem xcodes_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.1
      = (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).1 := by
  sl_kernel_rfl

/-- The stores of the normalised tokens' scales. -/
theorem xscales_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.2.1
      = [⟨Rect.unit (s := S24x256) ![0, 128] S24x128.size inb_S24x256_S24x128_0_128, extractStridedSlice S24x128 ![0, 0] (transpose S128x128 [1, 0] (arg16.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.2 (Rect.unit (s := S256x128) ![128, 0] S128x128.size inb_S256x128_S128x128_128_0).toLoadRect) transposes_S128x128_p1_0_S128x128) slices_S128x128_o0_0_S24x128⟩,
         ⟨Rect.unit (s := S24x256) ![0, 0] S24x128.size inb_S24x256_S24x128_0_0, extractStridedSlice S24x128 ![0, 0] (transpose S128x128 [1, 0] (arg16.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.2 (Rect.unit (s := S256x128) ![0, 0] S128x128.size inb_S256x128_S128x128_0_0).toLoadRect) transposes_S128x128_p1_0_S128x128) slices_S128x128_o0_0_S24x128⟩] := by
  sl_kernel_rfl

/-- The stores of the turned weights. -/
theorem weights_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 := by
  sl_kernel_rfl

/-- The stores of the turned scales. -/
theorem wscales_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3).2.2.2.2.2.2.2.2.2.1
      = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 := by
  sl_kernel_rfl

end Cert.Runs

end
-- ==== Proof.Weights.lean ====
/- What one trip of the weights' loop stores: 128 columns of the weights, turned into rows, and their scales on 128
   equal lanes. -/
module

public import proofs.«01_k».proof.Proof.Tile
public import proofs.«01_k».proof.Proof.Gen.KernelIdeal.Loops

@[expose] public section

set_option maxRecDepth 65536
set_option maxHeartbeats 4000000

noncomputable section

namespace Cert.Weights

open Idealize.ShloMosaic Idealize.ShloMosaic.TcCoe Idealize.SL.Sem Cert.KernelIdeal Cert.KernelIdeal.Gen Cert.Tile

variable {F : FTy → Type} [FloatOps F]

/-- Where trip `k` reads block `b` of 256 rows of the weights. -/
def roff (k : Fin k0_t1_loop.trips) (b : ℕ) : Fin 2 → ℕ :=
  [k0_off1 k, k0_off3 k, k0_off5 k, k0_off7 k, k0_off9 k, k0_off11 k, k0_off13 k, k0_off15 k, k0_off17 k, k0_off19 k, k0_off21 k, k0_off23 k].getD b ![0, 0]

/-- Where trip `k` stores it, turned. -/
def soff (k : Fin k0_t1_loop.trips) (b : ℕ) : Fin 2 → ℕ :=
  [k0_off2 k, k0_off4 k, k0_off6 k, k0_off8 k, k0_off10 k, k0_off12 k, k0_off14 k, k0_off16 k, k0_off18 k, k0_off20 k, k0_off22 k, k0_off24 k].getD b ![0, 0]

theorem trips_eq : k0_t1_loop.trips = 36 := by decide +kernel

theorem roff_eq_fin : ∀ (k : Fin k0_t1_loop.trips) (b : Fin 12), roff k b.val = ![256 * b.val, 128 * k.val] := by
  decide +kernel

theorem soff_eq_fin : ∀ (k : Fin k0_t1_loop.trips) (b : Fin 12), soff k b.val = ![128 * k.val, 256 * b.val] := by
  decide +kernel

theorem roff_eq (k : Fin k0_t1_loop.trips) (b : ℕ) (hb : b < 12) : roff k b = ![256 * b, 128 * k.val] := roff_eq_fin k ⟨b, hb⟩

theorem soff_eq (k : Fin k0_t1_loop.trips) (b : ℕ) (hb : b < 12) : soff k b = ![128 * k.val, 256 * b] := soff_eq_fin k ⟨b, hb⟩

theorem roff_inb (k : Fin k0_t1_loop.trips) (b : ℕ) : ∀ a, roff k b a + S256x128.size a ≤ S3072x4608.size a := by
  have hk : k.val < 36 := trips_eq ▸ k.isLt
  by_cases hb : b < 12
  · rw [roff_eq k b hb]
    intro a
    match a with
    | ⟨0, _⟩ => show 256 * b + 256 ≤ 3072; omega
    | ⟨1, _⟩ => show 128 * k.val + 128 ≤ 4608; omega
  · have : roff k b = ![0, 0] := by
      unfold roff
      rw [List.getD_eq_getElem?_getD, List.getElem?_eq_none (by simpa using hb)]
      rfl
    rw [this]
    decide

theorem soff_inb (k : Fin k0_t1_loop.trips) (b : ℕ) : ∀ a, soff k b a + S128x256.size a ≤ S4608x3072.size a := by
  have hk : k.val < 36 := trips_eq ▸ k.isLt
  by_cases hb : b < 12
  · rw [soff_eq k b hb]
    intro a
    match a with
    | ⟨0, _⟩ => show 128 * k.val + 128 ≤ 4608; omega
    | ⟨1, _⟩ => show 256 * b + 256 ≤ 3072; omega
  · have : soff k b = ![0, 0] := by
      unfold soff
      rw [List.getD_eq_getElem?_getD, List.getElem?_eq_none (by simpa using hb)]
      rfl
    rw [this]
    decide

theorem wsr_eq : ∀ k : Fin k0_t1_loop.trips, k0_off25 k = ![0, 128 * k.val] := by decide +kernel

theorem wss_eq : ∀ k : Fin k0_t1_loop.trips, k0_off26 k = ![128 * k.val, 0] := by decide +kernel

theorem wsr_inb (k : Fin k0_t1_loop.trips) : ∀ a, k0_off25 k a + S1x128.size a ≤ S1x4608.size a := by
  have hk : k.val < 36 := trips_eq ▸ k.isLt
  rw [wsr_eq k]
  intro a
  match a with
  | ⟨0, _⟩ => show 0 + 1 ≤ 1; omega
  | ⟨1, _⟩ => show 128 * k.val + 128 ≤ 4608; omega

theorem wss_inb (k : Fin k0_t1_loop.trips) : ∀ a, k0_off26 k a + S128x128.size a ≤ S4608x128.size a := by
  have hk : k.val < 36 := trips_eq ▸ k.isLt
  rw [wss_eq k]
  intro a
  match a with
  | ⟨0, _⟩ => show 128 * k.val + 128 ≤ 4608; omega
  | ⟨1, _⟩ => show 0 + 128 ≤ 128; omega

/-- A tile of the weights, turned. -/
def turnW (w : Vec F S256x128 .fp8e4m3) : FVec F S128x256 .bf16 :=
  shapeCast S128x256 (truncf .bf16 (transpose S128x256 [1, 0] (extf .f32 w bitsLt_fp8e4m3_f32)
    transposes_S256x128_p1_0_S128x256) bitsLt_bf16_f32) shapeCasts_S128x256_S128x256

/-- A row of scales, turned, on 128 equal lanes. -/
def turnS (s : Vec F S1x128 .f32) : FVec F S128x128 .f32 :=
  shapeCast S128x128 (transpose S128x128 [1, 0] (broadcastTo S128x128 (shapeCast S1x128 (shapeCast S1x128 s shapeCasts_S1x128_S1x128)
    shapeCasts_S1x128_S1x128)
    broadcasts_S1x128_S128x128) transposes_S128x128_p1_0_S128x128) shapeCasts_S128x128_S128x128

variable (arg3 : Memref sig .tc .vmem S3072x4608 .fp8e4m3) (arg4 : Memref sig .tc .vmem S1x4608 .f32)
  (X3 : BufTy.Contents (Elt F) arg3.view.ty) (X4 : BufTy.Contents (Elt F) arg4.view.ty)

/-- The weights stored for block `b`. -/
def pcW (k : Fin k0_t1_loop.trips) (b : ℕ) : View.Piece (Elt F) S4608x3072 .bf16 :=
  ⟨Rect.unit (s := S4608x3072) (soff k b) S128x256.size (soff_inb k b),
    turnW (View.readAt (Elt F) arg3.view (Rect.unit (s := S3072x4608) (roff k b) S256x128.size (roff_inb k b)).toLoadRect X3)⟩

/-- The scales stored by trip `k`. -/
def pcS (k : Fin k0_t1_loop.trips) : View.Piece (Elt F) S4608x128 .f32 :=
  ⟨Rect.unit (s := S4608x128) (k0_off26 k) S128x128.size (wss_inb k),
    turnS (View.readAt (Elt F) arg4.view (Rect.unit (s := S1x4608) (k0_off25 k) S1x128.size (wsr_inb k)).toLoadRect X4)⟩

/-- The blocks in the order the piece list holds them, last stored first. -/
def blocks : List ℕ := [11, 10, 9, 8, 7, 6, 5, 4, 3, 2, 1, 0]

theorem turnW_apply (w : Vec Ideal S256x128 .fp8e4m3) (r : Fin 128) (l : Fin 256) : turnW w (ix2 r l) = w (ix2 l r) := by
  pointwise [turnW]

theorem turnS_apply (s : Vec Ideal S1x128 .f32) (r l : Fin 128) : turnS s (ix2 r l) = s (ix2 (0 : Fin 1) r) := by
  pointwise [turnS]

end Cert.Weights

namespace Cert.Weights

open Idealize.ShloMosaic Idealize.ShloMosaic.TcCoe Idealize.SL.Sem Cert.KernelIdeal Cert.KernelIdeal.Gen Cert.Tile

variable {F : FTy → Type} [FloatOps F]

/-- The weights' loop's trip stores those pieces. -/
theorem trip_eq (𝒱 : Variants) (c : Dev nD) (bd : Option 𝒱.V) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (k0_h1 : k0_cond1 i = 1#1) (X3 : BufTy.Contents (Elt F) arg3.view.ty) (X4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 k
      = (blocks.map (pcW arg3 X3 k), [pcS arg4 X4 k]) := by
  sl_kernel_rfl

end Cert.Weights

end
-- ==== Proof.WeightsVal.lean ====
/- What the weights' loop leaves: the weights turned into rows, and their scales, each on 128 equal lanes. -/
module

public import proofs.«01_k».proof.Proof.Weights
public import proofs.«01_k».proof.Proof.Spec
public import Idealize.ShloMosaic.Lib.Pipeline.ValueKit

@[expose] public section

set_option maxRecDepth 65536

noncomputable section

namespace Cert.Weights

open Idealize.ShloMosaic Idealize.ShloMosaic.TcCoe Idealize.SL.Sem Cert.KernelIdeal Cert.KernelIdeal.Gen Cert.Tile

/-- The weight column that trip `k` stores in row `r`. -/
def wcol (k : Fin k0_t1_loop.trips) (r : Fin 128) : Fin 4608 := ⟨128 * k.val + r.val, by have := k.isLt; have := trips_eq; omega⟩

/-- The weight row of block `b` on lane `l`. -/
def wrow (b : Fin 12) (l : Fin 256) : Fin 3072 := ⟨256 * b.val + l.val, by omega⟩

theorem exists_wcol (n : Fin 4608) : ∃ (k : Fin k0_t1_loop.trips) (r : Fin 128), wcol k r = n := by
  have h := trips_eq
  exact ⟨⟨n.val / 128, by rw [h]; omega⟩, ⟨n.val % 128, by omega⟩, Fin.ext (by show 128 * (n.val / 128) + n.val % 128 = n.val; omega)⟩

theorem exists_wrow (n : Fin 3072) : ∃ (b : Fin 12) (l : Fin 256), wrow b l = n :=
  ⟨⟨n.val / 256, by omega⟩, ⟨n.val % 256, by omega⟩, Fin.ext (by show 256 * (n.val / 256) + n.val % 256 = n.val; omega)⟩

theorem w_emb (k : Fin k0_t1_loop.trips) (b : Fin 12) (r : Fin 128) (l : Fin 256) :
    (Rect.unit (s := S4608x3072) (soff k b.val) S128x256.size (soff_inb k b.val)).emb (ix2 r l) = ix2 (wcol k r) (wrow b l) := by
  funext a
  apply Fin.ext
  refine (Rect.idx_unit_val _ _ _ _ a).trans ?_
  refine (congrArg (· + (ix2 r l a).val) (congrFun (soff_eq k b.val b.isLt) a)).trans ?_
  match a with
  | ⟨0, _⟩ => rfl
  | ⟨1, _⟩ => rfl

theorem s_emb (k : Fin k0_t1_loop.trips) (r l : Fin 128) :
    (Rect.unit (s := S4608x128) (k0_off26 k) S128x128.size (wss_inb k)).emb (ix2 r l) = ix2 (wcol k r) l := by
  funext a
  apply Fin.ext
  refine (Rect.idx_unit_val _ _ _ _ a).trans ?_
  refine (congrArg (· + (ix2 r l a).val) (congrFun (wss_eq k) a)).trans ?_
  match a with
  | ⟨0, _⟩ => rfl
  | ⟨1, _⟩ => exact Nat.zero_add _

section
variable (𝒱 : Variants) (c : Dev nD) (bd : Option 𝒱.V) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (k0_h1 : k0_cond1 i = 1#1)
  (X3 : BufTy.Contents (Elt Ideal) arg3.view.ty) (X4 : BufTy.Contents (Elt Ideal) arg4.view.ty)

/-- The stores of the first trips. -/
theorem mem_pb (n : ℕ) (hn : n ≤ k0_t1_loop.trips) :
    let p := pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 n
    (∀ q, q ∈ p.1 ↔ ∃ k : Fin k0_t1_loop.trips, k.val < n ∧ ∃ b : Fin 12, q = pcW arg3 X3 k b.val)
    ∧ (∀ q, q ∈ p.2 ↔ ∃ k : Fin k0_t1_loop.trips, k.val < n ∧ q = pcS arg4 X4 k) := by
  have hblocks : ∀ b : ℕ, b ∈ blocks ↔ b < 12 := by
    intro b
    constructor
    · exact fun h => (by decide : ∀ b ∈ blocks, b < 12) b h
    · exact fun h => (by decide : ∀ b < 12, b ∈ blocks) b h
  have hmap : ∀ {α : Type} (f : ℕ → α) (q : α), q ∈ blocks.map f ↔ ∃ b : Fin 12, q = f b.val := by
    intro α f q
    rw [List.mem_map]
    constructor
    · rintro ⟨b, hb, rfl⟩
      exact ⟨⟨b, (hblocks b).1 hb⟩, rfl⟩
    · rintro ⟨b, rfl⟩
      exact ⟨b.val, (hblocks _).2 b.isLt, rfl⟩
  induction n with
  | zero =>
    refine ⟨?_, ?_⟩ <;> intro q <;> simp [pb_k0_t1]
  | succ n ih =>
    have ih := ih (by omega)
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 ⟨n, hn⟩
    rw [trip_eq] at hs
    have step : ∀ (P : Fin k0_t1_loop.trips → Prop), (∃ k : Fin k0_t1_loop.trips, k.val < n + 1 ∧ P k)
        ↔ P ⟨n, hn⟩ ∨ ∃ k : Fin k0_t1_loop.trips, k.val < n ∧ P k := by
      intro P
      constructor
      · rintro ⟨k, hk, h⟩
        rcases Nat.lt_succ_iff_lt_or_eq.1 hk with h' | h'
        · exact .inr ⟨k, h', h⟩
        · left
          have : k = ⟨n, hn⟩ := Fin.ext h'
          exact this ▸ h
      · rintro (h | ⟨k, hk, h⟩)
        · exact ⟨⟨n, hn⟩, Nat.lt_succ_self n, h⟩
        · exact ⟨k, Nat.lt_succ_of_lt hk, h⟩
    dsimp only at hs ⊢
    rw [hs]
    refine ⟨fun q => ?_, fun q => ?_⟩
    · rw [List.mem_append, ih.1, step, hmap]
    · rw [List.mem_append, ih.2, step, List.mem_singleton]

/-- The turned weights, read back. -/
theorem w_canon (n : Fin 4608) (j : Fin 3072) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 k0_t1_loop.trips).1 (ix2 n j) = arg3.view.read (Elt Ideal) X3 (ix2 j n) := by
  have hm := (mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 _ le_rfl).1
  refine View.canon_eq_of_allAt _ _ _ ?_ ?_
  · obtain ⟨k, r, rfl⟩ := exists_wcol n
    obtain ⟨b, l, rfl⟩ := exists_wrow j
    refine ⟨_, (hm _).2 ⟨k, k.isLt, b, rfl⟩, ?_⟩
    rw [← w_emb k b r l]
    exact LoadRect.idx_mem (Rect.toLoadRect _) _
  · intro q hq x hx
    obtain ⟨k, _, b, rfl⟩ := (hm q).1 hq
    change S128x256.Idx at x
    obtain ⟨r, l, rfl⟩ : ∃ (r : Fin 128) (l : Fin 256), x = ix2 r l := ⟨x 0, x 1, eq_ix2 x⟩
    have e := (w_emb k b r l).symm.trans hx
    obtain ⟨rfl, rfl⟩ := (ix2_inj _ _ _ _).1 e
    refine (turnW_apply _ r l).trans ?_
    rw [View.readAt_eq_ld]
    refine View.ld_unit_apply_of _ _ _ _ _ _ fun a => ?_
    refine Eq.trans ?_ (congrArg (· + (ix2 l r a).val) (congrFun (roff_eq k b.val b.isLt) a)).symm
    match a with
    | ⟨0, _⟩ => rfl
    | ⟨1, _⟩ => rfl

/-- The turned scales, read back. -/
theorem s_canon (n : Fin 4608) (l : Fin 128) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 k0_t1_loop.trips).2 (ix2 n l) = arg4.view.read (Elt Ideal) X4 (ix2 (0 : Fin 1) n) := by
  have hm := (mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X3 X4 _ le_rfl).2
  refine View.canon_eq_of_allAt _ _ _ ?_ ?_
  · obtain ⟨k, r, rfl⟩ := exists_wcol n
    refine ⟨_, (hm _).2 ⟨k, k.isLt, rfl⟩, ?_⟩
    rw [← s_emb k r l]
    exact LoadRect.idx_mem (Rect.toLoadRect _) _
  · intro q hq x hx
    obtain ⟨k, _, rfl⟩ := (hm q).1 hq
    change S128x128.Idx at x
    obtain ⟨r, l', rfl⟩ : ∃ (r l : Fin 128), x = ix2 r l := ⟨x 0, x 1, eq_ix2 x⟩
    have e := (s_emb k r l').symm.trans hx
    obtain ⟨rfl, rfl⟩ := (ix2_inj _ _ _ _).1 e
    refine (turnS_apply (View.readAt (Elt Ideal) arg4.view (Rect.unit (s := S1x4608) (k0_off25 k) S1x128.size (wsr_inb k)).toLoadRect X4) r l').trans ?_
    rw [View.readAt_eq_ld]
    refine View.ld_unit_apply_of _ _ _ _ _ _ fun a => ?_
    refine Eq.trans ?_ (congrArg (· + (ix2 (0 : Fin 1) r a).val) (congrFun (wsr_eq k) a)).symm
    match a with
    | ⟨0, _⟩ => rfl
    | ⟨1, _⟩ => rfl

end

end Cert.Weights

end
-- ==== Proof.PointA.lean ====
/- What a grid point leaves, for a point that turns the weights first. -/
module

public import proofs.«01_k».proof.Proof.Point
public import proofs.«01_k».proof.Proof.QuantCanon
public import proofs.«01_k».proof.Proof.RunsA
public import proofs.«01_k».proof.Proof.WeightsVal
public import proofs.«01_k».proof.Proof.Gen.KernelIdeal.Frame

@[expose] public section

set_option maxRecDepth 65536
set_option maxHeartbeats 2000000

noncomputable section

namespace Cert.Runs

open Idealize.ShloMosaic Idealize.ShloMosaic.TcCoe Idealize.SL.Sem Cert.KernelIdeal Cert.KernelIdeal.Gen Cert.Tile

variable (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (hc0 : cond0_0 i)
  (x0 : Vec Ideal S256x3072 .bf16) (x1 : Vec Ideal S1x3072 .bf16) (x2 : Vec Ideal S3072x4608 .fp8e4m3) (x3 : Vec Ideal S1x4608 .f32)

/-- The operands of the head tiles hold what they should. -/
theorem holds_A :
    Heads.Holds (fun g => arg13.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).1 (Heads.wrect g).toLoadRect)
      (fun m => arg14.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) k0_t1_loop.trips).2 (Heads.srect m).toLoadRect)
      (arg15.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect)
      (fun t k => x0 (ix2 t k)) (fun k => x1 (ix2 (0 : Fin 1) k)) (fun k n => x2 (ix2 k n)) (fun n => x3 (ix2 (0 : Fin 1) n)) where
  hW a r k := by
    refine (Point.readCov_apply _ _ _ _ _ _ (ix2 (⟨384 * (a % 12) + r.val, by omega⟩ : Fin 4608) k) fun j => ?_).trans ?_
    · match j with
      | ⟨0, _⟩ => rfl
      | ⟨1, _⟩ => exact (Nat.zero_add _).symm
    · refine (Weights.w_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) _ _).trans ?_
      rw [Memref.IsWhole.read_unread]
  hS m r l := by
    refine (Point.readCov_apply _ _ _ _ _ _ (ix2 (⟨96 * (m % 48) + r.val, by omega⟩ : Fin 4608) l) fun j => ?_).trans ?_
    · match j with
      | ⟨0, _⟩ => rfl
      | ⟨1, _⟩ => exact (Nat.zero_add _).symm
    · refine (Weights.s_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) _ _).trans ?_
      rw [Memref.IsWhole.read_unread]
  hX t k := by
    refine (Point.readCov_apply _ _ _ _ _ _ (ix2 t k) fun j => ?_).trans ?_
    · match j with
      | ⟨0, _⟩ => exact (Nat.zero_add _).symm
      | ⟨1, _⟩ => exact (Nat.zero_add _).symm
    · refine (Quant.prod_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) _ _).trans ?_
      rw [Memref.IsWhole.read_unread, Memref.IsWhole.read_unread]

/-- The blocks hold the codes and scales of the point's tokens. -/
theorem good_A :
    Point.Good (fun t k => x0 (ix2 t k)) (fun k => x1 (ix2 (0 : Fin 1) k)) (fun k n => x2 (ix2 k n)) (fun n => x3 (ix2 (0 : Fin 1) n))
      (out0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3, sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
  have H := holds_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3
  have h4 : Point.Codes (fun t k => x0 (ix2 t k)) (fun k => x1 (ix2 (0 : Fin 1) k)) (fun k n => x2 (ix2 k n)) (fun n => x3 (ix2 (0 : Fin 1) n)) 0 (by decide) (out0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    unfold out0_A_4; exact Point.codes_of H 0 (by decide) rfl VO0_4 _ (codes_q_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)
  have h5 : Point.Scales (fun t k => x0 (ix2 t k)) (fun k => x1 (ix2 (0 : Fin 1) k)) (fun k n => x2 (ix2 k n)) (fun n => x3 (ix2 (0 : Fin 1) n)) 0 (by decide) (out0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    unfold out0_A_5; exact Point.scales_of H 0 (by decide) rfl VO0_5 _ (scales_q_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)
  have h6 : Point.Codes (fun t k => x0 (ix2 t k)) (fun k => x1 (ix2 (0 : Fin 1) k)) (fun k n => x2 (ix2 k n)) (fun n => x3 (ix2 (0 : Fin 1) n)) 16 (by decide) (out0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    unfold out0_A_6; exact Point.codes_of H 16 (by decide) rfl VO0_6 _ (codes_k_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)
  have h7 : Point.Scales (fun t k => x0 (ix2 t k)) (fun k => x1 (ix2 (0 : Fin 1) k)) (fun k n => x2 (ix2 k n)) (fun n => x3 (ix2 (0 : Fin 1) n)) 16 (by decide) (out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    unfold out0_A_7; exact Point.scales_of H 16 (by decide) rfl VO0_7 _ (scales_k_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)
  have h8 : Point.Codes (fun t k => x0 (ix2 t k)) (fun k => x1 (ix2 (0 : Fin 1) k)) (fun k n => x2 (ix2 k n)) (fun n => x3 (ix2 (0 : Fin 1) n)) 32 (by decide) (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    unfold out0_A_8; exact Point.codes_of H 32 (by decide) rfl VO0_8 _ (codes_v_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)
  have h9 : Point.Scales (fun t k => x0 (ix2 t k)) (fun k => x1 (ix2 (0 : Fin 1) k)) (fun k n => x2 (ix2 k n)) (fun n => x3 (ix2 (0 : Fin 1) n)) 32 (by decide) (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    unfold out0_A_9; exact Point.scales_of H 32 (by decide) rfl VO0_9 _ (scales_v_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)
  have h10 : ∀ (t : Fin 256) (k : Fin 3072), out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (ix2 t k)
      = Spec.xcode (fun k => x0 (ix2 t k)) (fun k => x1 (ix2 (0 : Fin 1) k)) (Spec.blk k) (Spec.lane k) := by
    intro t k
    unfold out0_A_10
    rw [View.read_writes_junk_eq_canon, xcodes_A]
    refine (Quant.code_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) _ _).trans ?_
    rw [Memref.IsWhole.read_unread, Memref.IsWhole.read_unread]
  have h11 : ∀ (b : Fin 24) (t : Fin 256), out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 (ix2 b t) = Spec.xscale (fun k => x0 (ix2 t k)) (fun k => x1 (ix2 (0 : Fin 1) k)) b := by
    intro b t
    unfold out0_A_11
    rw [View.read_writes_junk_eq_canon, xscales_A]
    refine Point.xscales_canon _ _ (fun t b => Spec.xscale (fun k => x0 (ix2 t k)) (fun k => x1 (ix2 (0 : Fin 1) k)) b) (fun t b => ?_) b t
    refine (Quant.scale_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) _ _).trans ?_
    rw [Memref.IsWhole.read_unread, Memref.IsWhole.read_unread]
  have hwt : Point.Turned (fun k n => x2 (ix2 k n)) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    intro n k
    unfold sout0_A_0
    rw [View.read_writes_junk_eq_canon, weights_A]
    refine (Weights.w_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) _ _).trans ?_
    rw [Memref.IsWhole.read_unread]
  have hws : Point.TurnedScales (fun n => x3 (ix2 (0 : Fin 1) n)) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) := by
    intro n l
    unfold sout0_A_1
    rw [View.read_writes_junk_eq_canon, wscales_A]
    refine (Weights.s_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg3.unread x2) (harg4.unread x3) _ _).trans ?_
    rw [Memref.IsWhole.read_unread]
  exact Point.good_mk h4 h5 h6 h7 h8 h9 h10 h11 hwt hws

end Cert.Runs

end
-- ==== Proof.RunsB.lean ====
/- The stores of one grid point, for a point that finds the weights turned, as lists of pieces. -/
module

public import proofs.«01_k».proof.Proof.Heads
public import proofs.«01_k».proof.Proof.Gen.KernelIdeal.Frame.RunB

@[expose] public section

set_option maxRecDepth 65536
set_option maxHeartbeats 4000000

noncomputable section

namespace Cert.Runs

open Idealize.ShloMosaic Idealize.ShloMosaic.TcCoe Idealize.SL.Sem Cert.KernelIdeal Cert.KernelIdeal.Gen Cert.Tile

variable {F : FTy → Type} [FloatOps F]

variable (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (hc0 : ¬cond0_0 i)
  (x0 : Vec F S256x3072 .bf16) (x1 : Vec F S1x3072 .bf16) (x2 : Vec F S3072x4608 .fp8e4m3) (x3 : Vec F S1x4608 .f32) (xs0 : Vec F S4608x3072 .bf16) (xs1 : Vec F S4608x128 .f32)

/-- The stores of the q codes. -/
theorem codes_q_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).1
      = Heads.codes (fun g => View.readAt (Elt F) arg13.view (Heads.wrect g).toLoadRect (harg13.unread xs0)) (fun m => View.readAt (Elt F) arg14.view (Heads.srect m).toLoadRect (harg14.unread xs1))
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 0 := by
  sl_kernel_rfl

/-- The stores of the q scales. -/
theorem scales_q_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.1
      = Heads.scales (fun g => View.readAt (Elt F) arg13.view (Heads.wrect g).toLoadRect (harg13.unread xs0)) (fun m => View.readAt (Elt F) arg14.view (Heads.srect m).toLoadRect (harg14.unread xs1))
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 0 := by
  sl_kernel_rfl

/-- The stores of the k codes. -/
theorem codes_k_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.2.1
      = Heads.codes (fun g => View.readAt (Elt F) arg13.view (Heads.wrect g).toLoadRect (harg13.unread xs0)) (fun m => View.readAt (Elt F) arg14.view (Heads.srect m).toLoadRect (harg14.unread xs1))
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 16 := by
  sl_kernel_rfl

/-- The stores of the k scales. -/
theorem scales_k_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.2.2.1
      = Heads.scales (fun g => View.readAt (Elt F) arg13.view (Heads.wrect g).toLoadRect (harg13.unread xs0)) (fun m => View.readAt (Elt F) arg14.view (Heads.srect m).toLoadRect (harg14.unread xs1))
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 16 := by
  sl_kernel_rfl

/-- The stores of the v codes. -/
theorem codes_v_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.2.2.2.1
      = Heads.codes (fun g => View.readAt (Elt F) arg13.view (Heads.wrect g).toLoadRect (harg13.unread xs0)) (fun m => View.readAt (Elt F) arg14.view (Heads.srect m).toLoadRect (harg14.unread xs1))
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 32 := by
  sl_kernel_rfl

/-- The stores of the v scales. -/
theorem scales_v_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.2.2.2.2.1
      = Heads.scales (fun g => View.readAt (Elt F) arg13.view (Heads.wrect g).toLoadRect (harg13.unread xs0)) (fun m => View.readAt (Elt F) arg14.view (Heads.srect m).toLoadRect (harg14.unread xs1))
        (arg15.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect) 32 := by
  sl_kernel_rfl

/-- The stores of the normalised tokens' codes. -/
theorem xcodes_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.2.2.2.2.2.1
      = (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).1 := by
  sl_kernel_rfl

/-- The stores of the normalised tokens' scales. -/
theorem xscales_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1).2.2.2.2.2.2.2.1
      = [⟨Rect.unit (s := S24x256) ![0, 128] S24x128.size inb_S24x256_S24x128_0_128, extractStridedSlice S24x128 ![0, 0] (transpose S128x128 [1, 0] (arg16.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.2 (Rect.unit (s := S256x128) ![128, 0] S128x128.size inb_S256x128_S128x128_128_0).toLoadRect) transposes_S128x128_p1_0_S128x128) slices_S128x128_o0_0_S24x128⟩,
         ⟨Rect.unit (s := S24x256) ![0, 0] S24x128.size inb_S24x256_S24x128_0_0, extractStridedSlice S24x128 ![0, 0] (transpose S128x128 [1, 0] (arg16.view.readCov (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.2 (Rect.unit (s := S256x128) ![0, 0] S128x128.size inb_S256x128_S128x128_0_0).toLoadRect) transposes_S128x128_p1_0_S128x128) slices_S128x128_o0_0_S24x128⟩] := by
  sl_kernel_rfl

end Cert.Runs

end
-- ==== Proof.PointB.lean ====
/- What a grid point leaves, for a point that finds the weights turned. -/
module

public import proofs.«01_k».proof.Proof.Point
public import proofs.«01_k».proof.Proof.QuantCanon
public import proofs.«01_k».proof.Proof.RunsB
public import proofs.«01_k».proof.Proof.Gen.KernelIdeal.Frame

@[expose] public section

set_option maxRecDepth 65536
set_option maxHeartbeats 2000000

noncomputable section

namespace Cert.Runs

open Idealize.ShloMosaic Idealize.ShloMosaic.TcCoe Idealize.SL.Sem Cert.KernelIdeal Cert.KernelIdeal.Gen Cert.Tile

variable (c : Dev nD) (i : grid0.Coords) (arg1 : Memref sig .tc .vmem S256x3072 .bf16) (harg1 : arg1.IsWhole) (arg2 : Memref sig .tc .vmem S1x3072 .bf16) (harg2 : arg2.IsWhole) (arg3 : Memref sig .tc .vmem S3072x4608 .fp8e4m3) (harg3 : arg3.IsWhole) (arg4 : Memref sig .tc .vmem S1x4608 .f32) (harg4 : arg4.IsWhole) (arg5 : Memref sig .tc .vmem S1536x256 .fp8e4m3) (harg5 : arg5.IsWhole) (arg6 : Memref sig .tc .vmem S16x256 .f32) (harg6 : arg6.IsWhole) (arg7 : Memref sig .tc .vmem S1536x256 .fp8e4m3) (harg7 : arg7.IsWhole) (arg8 : Memref sig .tc .vmem S16x256 .f32) (harg8 : arg8.IsWhole) (arg9 : Memref sig .tc .vmem S1536x256 .fp8e4m3) (harg9 : arg9.IsWhole) (arg10 : Memref sig .tc .vmem S16x256 .f32) (harg10 : arg10.IsWhole) (arg11 : Memref sig .tc .vmem S256x3072 .fp8e4m3) (harg11 : arg11.IsWhole) (arg12 : Memref sig .tc .vmem S24x256 .f32) (harg12 : arg12.IsWhole) (arg13 : Memref sig .tc .vmem S4608x3072 .bf16) (harg13 : arg13.IsWhole) (arg14 : Memref sig .tc .vmem S4608x128 .f32) (harg14 : arg14.IsWhole) (arg15 : Memref sig .tc .vmem S256x3072 .bf16) (harg15 : arg15.IsWhole) (arg16 : Memref sig .tc .vmem S256x128 .f32) (harg16 : arg16.IsWhole) (hc0 : ¬cond0_0 i)
  (x0 : Vec Ideal S256x3072 .bf16) (x1 : Vec Ideal S1x3072 .bf16) (x2 : Vec Ideal S3072x4608 .fp8e4m3) (x3 : Vec Ideal S1x4608 .f32) (xs0 : Vec Ideal S4608x3072 .bf16) (xs1 : Vec Ideal S4608x128 .f32)

/-- The operands of the head tiles hold what they should. -/
theorem holds_B (w : Fin 3072 → Fin 4608 → EReal) (ws : Fin 4608 → EReal) (hw : Point.Turned w xs0) (hs : Point.TurnedScales ws xs1) :
    Heads.Holds (fun g => View.readAt (Elt Ideal) arg13.view (Heads.wrect g).toLoadRect (harg13.unread xs0))
      (fun m => View.readAt (Elt Ideal) arg14.view (Heads.srect m).toLoadRect (harg14.unread xs1))
      (arg15.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S32x128 32 [1] iota_S32x128_d1_w32) (harg1.unread x0) (harg2.unread x1) k0_t2_loop.trips).2.1 (Rect.unit (s := S256x3072) ![0, 0] S256x3072.size inb_S256x3072_S256x3072_0_0).toLoadRect)
      (fun t k => x0 (ix2 t k)) (fun k => x1 (ix2 (0 : Fin 1) k)) w ws where
  hW a r k := by
    refine (Point.readAt_unread _ _ _ _ _ _ _ (ix2 (⟨384 * (a % 12) + r.val, by omega⟩ : Fin 4608) k) fun j => ?_).trans (hw _ _)
    match j with
    | ⟨0, _⟩ => rfl
    | ⟨1, _⟩ => exact (Nat.zero_add _).symm
  hS m r l := by
    refine (Point.readAt_unread _ _ _ _ _ _ _ (ix2 (⟨96 * (m % 48) + r.val, by omega⟩ : Fin 4608) l) fun j => ?_).trans (hs _ _)
    match j with
    | ⟨0, _⟩ => rfl
    | ⟨1, _⟩ => exact (Nat.zero_add _).symm
  hX t k := by
    refine (Point.readCov_apply _ _ _ _ _ _ (ix2 t k) fun j => ?_).trans ?_
    · match j with
      | ⟨0, _⟩ => exact (Nat.zero_add _).symm
      | ⟨1, _⟩ => exact (Nat.zero_add _).symm
    · refine (Quant.prod_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) _ _).trans ?_
      rw [Memref.IsWhole.read_unread, Memref.IsWhole.read_unread]

/-- The blocks hold the codes and scales of the point's tokens. -/
theorem good_B (w : Fin 3072 → Fin 4608 → EReal) (ws : Fin 4608 → EReal) (hw : Point.Turned w xs0) (hs : Point.TurnedScales ws xs1) :
    Point.Good (fun t k => x0 (ix2 t k)) (fun k => x1 (ix2 (0 : Fin 1) k)) w ws
      (out0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1, xs0, xs1) := by
  have H := holds_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  x0 x1 xs0 xs1 w ws hw hs
  have h4 : Point.Codes (fun t k => x0 (ix2 t k)) (fun k => x1 (ix2 (0 : Fin 1) k)) w ws 0 (by decide) (out0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1) := by
    unfold out0_B_4; exact Point.codes_of H 0 (by decide) rfl VO0_4 _ (codes_q_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1)
  have h5 : Point.Scales (fun t k => x0 (ix2 t k)) (fun k => x1 (ix2 (0 : Fin 1) k)) w ws 0 (by decide) (out0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1) := by
    unfold out0_B_5; exact Point.scales_of H 0 (by decide) rfl VO0_5 _ (scales_q_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1)
  have h6 : Point.Codes (fun t k => x0 (ix2 t k)) (fun k => x1 (ix2 (0 : Fin 1) k)) w ws 16 (by decide) (out0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1) := by
    unfold out0_B_6; exact Point.codes_of H 16 (by decide) rfl VO0_6 _ (codes_k_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1)
  have h7 : Point.Scales (fun t k => x0 (ix2 t k)) (fun k => x1 (ix2 (0 : Fin 1) k)) w ws 16 (by decide) (out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1) := by
    unfold out0_B_7; exact Point.scales_of H 16 (by decide) rfl VO0_7 _ (scales_k_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1)
  have h8 : Point.Codes (fun t k => x0 (ix2 t k)) (fun k => x1 (ix2 (0 : Fin 1) k)) w ws 32 (by decide) (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1) := by
    unfold out0_B_8; exact Point.codes_of H 32 (by decide) rfl VO0_8 _ (codes_v_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1)
  have h9 : Point.Scales (fun t k => x0 (ix2 t k)) (fun k => x1 (ix2 (0 : Fin 1) k)) w ws 32 (by decide) (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1) := by
    unfold out0_B_9; exact Point.scales_of H 32 (by decide) rfl VO0_9 _ (scales_v_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1)
  have h10 : ∀ (t : Fin 256) (k : Fin 3072), out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1 (ix2 t k)
      = Spec.xcode (fun k => x0 (ix2 t k)) (fun k => x1 (ix2 (0 : Fin 1) k)) (Spec.blk k) (Spec.lane k) := by
    intro t k
    unfold out0_B_10
    rw [View.read_writes_junk_eq_canon, xcodes_B]
    refine (Quant.code_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) _ _).trans ?_
    rw [Memref.IsWhole.read_unread, Memref.IsWhole.read_unread]
  have h11 : ∀ (b : Fin 24) (t : Fin 256), out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 xs0 xs1 (ix2 b t) = Spec.xscale (fun k => x0 (ix2 t k)) (fun k => x1 (ix2 (0 : Fin 1) k)) b := by
    intro b t
    unfold out0_B_11
    rw [View.read_writes_junk_eq_canon, xscales_B]
    refine Point.xscales_canon _ _ (fun t b => Spec.xscale (fun k => x0 (ix2 t k)) (fun k => x1 (ix2 (0 : Fin 1) k)) b) (fun t b => ?_) b t
    refine (Quant.scale_canon Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (harg2.unread x1) _ _).trans ?_
    rw [Memref.IsWhole.read_unread, Memref.IsWhole.read_unread]
  have hwt : Point.Turned w xs0 := by
    exact hw
  have hws : Point.TurnedScales ws xs1 := by
    exact hs
  exact Point.good_mk h4 h5 h6 h7 h8 h9 h10 h11 hwt hws

end Cert.Runs

end
-- ==== Proof.Points.lean ====
/- What every grid point leaves, by induction on the points: the first turns the weights, the others find them turned. -/
module

public import proofs.«01_k».proof.Proof.Blocks
public import proofs.«01_k».proof.Proof.PointA
public import proofs.«01_k».proof.Proof.PointB

@[expose] public section

set_option maxRecDepth 65536
set_option maxHeartbeats 2000000

noncomputable section

namespace Cert.Points

open Idealize.ShloMosaic Idealize.ShloMosaic.TcCoe Idealize.SL.Sem Cert.KernelIdeal Cert.KernelIdeal.Gen Cert.Blocks

variable (m : (ℓ : Loc nD τ sig) → Buf (Elt Ideal) ℓ) (c : Dev nD)

/-- The tokens of a block. -/
def rows (t : Fin cfg0.N) (tk : Fin 256) (k : Fin 3072) : EReal := xs m c (place t tk) k

theorem good_first (t : Fin cfg0.N) (h0 : t.val % 16 = 0) : Point.Good (rows m c t) (gs m c) (wsr m c) (ss m c) (outsAt0 m c t.val t.isLt) := by
  rw [outsAt0_A m c t h0]
  rw [show rows m c t = (fun tk k => (iblk m c 0 t : Vec Ideal S256x3072 .bf16) (ix2 tk k)) from funext fun tk => funext fun k => (iblk_x m c t tk k).symm,
    show gs m c = (fun k => (iblk m c 1 t : Vec Ideal S1x3072 .bf16) (ix2 (0 : Fin 1) k)) from funext fun k => (iblk_g m c t k).symm,
    show wsr m c = (fun k n => (iblk m c 2 t : Vec Ideal S3072x4608 .fp8e4m3) (ix2 k n)) from funext fun k => funext fun n => (iblk_w m c t k n).symm,
    show ss m c = (fun n => (iblk m c 3 t : Vec Ideal S1x4608 .f32) (ix2 (0 : Fin 1) n)) from funext fun n => (iblk_s m c t n).symm]
  exact Runs.good_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    scM0_1 (Memref.isWhole_whole _) scM0_2 (Memref.isWhole_whole _) scM0_3 (Memref.isWhole_whole _) ((hcond0_0 t).mpr h0)
    (iblk m c 0 t) (iblk m c 1 t) (iblk m c 2 t) (iblk m c 3 t)

theorem good_next (t : Fin cfg0.N) (h0 : ¬ t.val % 16 = 0)
    (hw : Point.Turned (wsr m c) (outsAt0 m c (t.val - 1) (Nat.lt_of_le_of_lt (Nat.sub_le _ _) t.isLt)).2.2.2.2.2.2.2.2.1)
    (hs : Point.TurnedScales (ss m c) (outsAt0 m c (t.val - 1) (Nat.lt_of_le_of_lt (Nat.sub_le _ _) t.isLt)).2.2.2.2.2.2.2.2.2) :
    Point.Good (rows m c t) (gs m c) (wsr m c) (ss m c) (outsAt0 m c t.val t.isLt) := by
  rw [outsAt0_B m c t h0]
  rw [show rows m c t = (fun tk k => (iblk m c 0 t : Vec Ideal S256x3072 .bf16) (ix2 tk k)) from funext fun tk => funext fun k => (iblk_x m c t tk k).symm,
    show gs m c = (fun k => (iblk m c 1 t : Vec Ideal S1x3072 .bf16) (ix2 (0 : Fin 1) k)) from funext fun k => (iblk_g m c t k).symm]
  exact Runs.good_B c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
    scM0_1 (Memref.isWhole_whole _) scM0_2 (Memref.isWhole_whole _) scM0_3 (Memref.isWhole_whole _) (fun h => h0 ((hcond0_0 t).mp h))
    (iblk m c 0 t) (iblk m c 1 t) (iblk m c 2 t) (iblk m c 3 t) _ _ (wsr m c) (ss m c) hw hs

/-- Every grid point leaves the codes and scales of its tokens. -/
theorem good : ∀ (n : ℕ) (hn : n < cfg0.N), Point.Good (rows m c ⟨n, hn⟩) (gs m c) (wsr m c) (ss m c) (outsAt0 m c n hn)
  | 0, hn => good_first m c ⟨0, hn⟩ rfl
  | n + 1, hn => by
    have ih := good n (Nat.lt_of_succ_lt hn)
    have h0 : ¬ (n + 1) % 16 = 0 := by have h : cfg0.N = 16 := N_0; omega
    exact good_next m c ⟨n + 1, hn⟩ h0 ih.wt ih.wss

end Cert.Points

end
-- ==== Proof.Arrays.lean ====
/- What the kernel's output arrays hold after the grid: the blocks of the sixteen points side by side. -/
module

public import proofs.«01_k».proof.Proof.Points

@[expose] public section

set_option maxRecDepth 65536

noncomputable section

namespace Cert.Arrays

open Idealize.ShloMosaic Idealize.ShloMosaic.TcCoe Idealize.SL.Sem Cert.KernelIdeal Cert.KernelIdeal.Gen Cert.Blocks Cert.Points

variable (m : (ℓ : Loc nD τ sig) → Buf (Elt Ideal) ℓ) (c : Dev nD)

/-- The code array of the sixteen heads from head `a` on: row `96 h + r`, one column for each token. -/
def codeArr (a : ℕ) (ha : a + 16 ≤ 48) : Vec Ideal S1536x4096 .fp8e4m3 := fun y =>
  Spec.hcode (xs m c (y 1)) (gs m c) (wsr m c) (ss m c)
    ⟨a + (y 0).val / 96, by have : (y 0).val < 1536 := (y 0).isLt; omega⟩ ⟨(y 0).val % 96, Nat.mod_lt _ (by decide)⟩

/-- The scale array of the sixteen heads from head `a` on. -/
def scaleArr (a : ℕ) (ha : a + 16 ≤ 48) : Vec Ideal S16x4096 .f32 := fun y =>
  Spec.hscale (xs m c (y 1)) (gs m c) (wsr m c) (ss m c) ⟨a + (y 0).val, by have : (y 0).val < 16 := (y 0).isLt; omega⟩

/-- The tokens' codes. -/
def xcodeArr : Vec Ideal S4096x3072 .fp8e4m3 := fun y => Spec.xcode (xs m c (y 0)) (gs m c) (Spec.blk (y 1)) (Spec.lane (y 1))

/-- The tokens' scales. -/
def xscaleArr : Vec Ideal S24x4096 .f32 := fun y => Spec.xscale (xs m c (y 1)) (gs m c) (y 0)

/-- A block of codes is its part of the code array. -/
theorem codes_at {a : ℕ} {ha : a + 16 ≤ 48} {t : Fin cfg0.N} {o : Vec Ideal S1536x256 .fp8e4m3}
    (h : Point.Codes (rows m c t) (gs m c) (wsr m c) (ss m c) a ha o) (y : S1536x256.Idx) (z : S1536x4096.Idx)
    (h0 : (z 0).val = (y 0).val) (h1 : (z 1).val = t.val * 256 + (y 1).val) : o y = codeArr m c a ha z := by
  obtain ⟨p, q, rfl⟩ : ∃ (p : Fin 1536) (q : Fin 256), y = ix2 p q := ⟨y 0, y 1, eq_ix2 y⟩
  have hp : (⟨96 * (p.val / 96) + p.val % 96, by omega⟩ : Fin 1536) = p := Fin.ext (Nat.div_add_mod _ _)
  have := h ⟨p.val / 96, by omega⟩ ⟨p.val % 96, by omega⟩ q
  rw [show (⟨96 * (⟨p.val / 96, by omega⟩ : Fin 16).val + (⟨p.val % 96, by omega⟩ : Fin 96).val, by omega⟩ : Fin 1536) = p from hp] at this
  rw [this]
  unfold codeArr rows
  have e0 : (z 0).val = p.val := h0
  have e1 : z 1 = place t q := Fin.ext (h1.trans (congrArg (· + q.val) (Nat.mul_comm _ _)))
  rw [e1]
  congr 1 <;> exact Fin.ext (by simp only [e0])

/-- A block of scales is its part of the scale array. -/
theorem scales_at {a : ℕ} {ha : a + 16 ≤ 48} {t : Fin cfg0.N} {o : Vec Ideal S16x256 .f32}
    (h : Point.Scales (rows m c t) (gs m c) (wsr m c) (ss m c) a ha o) (y : S16x256.Idx) (z : S16x4096.Idx)
    (h0 : (z 0).val = (y 0).val) (h1 : (z 1).val = t.val * 256 + (y 1).val) : o y = scaleArr m c a ha z := by
  obtain ⟨p, q, rfl⟩ : ∃ (p : Fin 16) (q : Fin 256), y = ix2 p q := ⟨y 0, y 1, eq_ix2 y⟩
  rw [h p q]
  unfold scaleArr rows
  have e0 : (z 0).val = p.val := h0
  have e1 : z 1 = place t q := Fin.ext (h1.trans (congrArg (· + q.val) (Nat.mul_comm _ _)))
  rw [e1]
  congr 1
  exact Fin.ext (by simp only [e0])

/-- A block of token codes is its part of the array. -/
theorem xcodes_at {t : Fin cfg0.N} {o : Vec Ideal S256x3072 .fp8e4m3}
    (h : ∀ (tk : Fin 256) (k : Fin 3072), o (ix2 tk k) = Spec.xcode (rows m c t tk) (gs m c) (Spec.blk k) (Spec.lane k))
    (y : S256x3072.Idx) (z : S4096x3072.Idx)
    (h0 : (z 0).val = t.val * 256 + (y 0).val) (h1 : (z 1).val = (y 1).val) : o y = xcodeArr m c z := by
  obtain ⟨p, q, rfl⟩ : ∃ (p : Fin 256) (q : Fin 3072), y = ix2 p q := ⟨y 0, y 1, eq_ix2 y⟩
  have e0 : z 0 = place t p := Fin.ext (h0.trans (congrArg (· + p.val) (Nat.mul_comm _ _)))
  have e1 : z 1 = q := Fin.ext h1
  rw [h p q]
  unfold xcodeArr rows
  rw [e0, e1]

/-- A block of token scales is its part of the array. -/
theorem xscales_at {t : Fin cfg0.N} {o : Vec Ideal S24x256 .f32}
    (h : ∀ (b : Fin 24) (tk : Fin 256), o (ix2 b tk) = Spec.xscale (rows m c t tk) (gs m c) b)
    (y : S24x256.Idx) (z : S24x4096.Idx)
    (h0 : (z 0).val = (y 0).val) (h1 : (z 1).val = t.val * 256 + (y 1).val) : o y = xscaleArr m c z := by
  obtain ⟨p, q, rfl⟩ : ∃ (p : Fin 24) (q : Fin 256), y = ix2 p q := ⟨y 0, y 1, eq_ix2 y⟩
  have e0 : z 0 = p := Fin.ext h0
  have e1 : z 1 = place t q := Fin.ext (h1.trans (congrArg (· + q.val) (Nat.mul_comm _ _)))
  rw [h p q]
  unfold xscaleArr rows
  rw [e0, e1]

/-- The places of the output blocks. -/
theorem idx_out : ∀ t : Fin cfg0.N, ((cfg0.win 4).index t = ![0, t.val] ∧ (cfg0.win 5).index t = ![0, t.val] ∧ (cfg0.win 6).index t = ![0, t.val]
    ∧ (cfg0.win 7).index t = ![0, t.val] ∧ (cfg0.win 8).index t = ![0, t.val] ∧ (cfg0.win 9).index t = ![0, t.val])
    ∧ (cfg0.win 10).index t = ![t.val, 0] ∧ (cfg0.win 11).index t = ![0, t.val] := by
  decide +kernel

/-- The query codes. -/
theorem arr4 : (dats m 0 c).arrAt 4 cfg0.N = codeArr m c 0 (by decide) := by
  refine (dats m 0 c).arrAt_eq_of_covers 4 _ (by decide +kernel) fun t hf y => ?_
  blk_simp
  rw [after0_4]
  refine codes_at m c (good m c t.val t.isLt).qc _ _ ?_ ?_ <;> blk_simp [(idx_out t).1.1]

/-- The query scales. -/
theorem arr5 : (dats m 0 c).arrAt 5 cfg0.N = scaleArr m c 0 (by decide) := by
  refine (dats m 0 c).arrAt_eq_of_covers 5 _ (by decide +kernel) fun t hf y => ?_
  blk_simp
  rw [after0_5]
  refine scales_at m c (good m c t.val t.isLt).qs _ _ ?_ ?_ <;> blk_simp [(idx_out t).1.2.1]

/-- The key codes. -/
theorem arr6 : (dats m 0 c).arrAt 6 cfg0.N = codeArr m c 16 (by decide) := by
  refine (dats m 0 c).arrAt_eq_of_covers 6 _ (by decide +kernel) fun t hf y => ?_
  blk_simp
  rw [after0_6]
  refine codes_at m c (good m c t.val t.isLt).kc _ _ ?_ ?_ <;> blk_simp [(idx_out t).1.2.2.1]

/-- The key scales. -/
theorem arr7 : (dats m 0 c).arrAt 7 cfg0.N = scaleArr m c 16 (by decide) := by
  refine (dats m 0 c).arrAt_eq_of_covers 7 _ (by decide +kernel) fun t hf y => ?_
  blk_simp
  rw [after0_7]
  refine scales_at m c (good m c t.val t.isLt).ks _ _ ?_ ?_ <;> blk_simp [(idx_out t).1.2.2.2.1]

/-- The value codes. -/
theorem arr8 : (dats m 0 c).arrAt 8 cfg0.N = codeArr m c 32 (by decide) := by
  refine (dats m 0 c).arrAt_eq_of_covers 8 _ (by decide +kernel) fun t hf y => ?_
  blk_simp
  rw [after0_8]
  refine codes_at m c (good m c t.val t.isLt).vc _ _ ?_ ?_ <;> blk_simp [(idx_out t).1.2.2.2.2.1]

/-- The value scales. -/
theorem arr9 : (dats m 0 c).arrAt 9 cfg0.N = scaleArr m c 32 (by decide) := by
  refine (dats m 0 c).arrAt_eq_of_covers 9 _ (by decide +kernel) fun t hf y => ?_
  blk_simp
  rw [after0_9]
  refine scales_at m c (good m c t.val t.isLt).vs _ _ ?_ ?_ <;> blk_simp [(idx_out t).1.2.2.2.2.2]

/-- The tokens' codes. -/
theorem arr10 : (dats m 0 c).arrAt 10 cfg0.N = xcodeArr m c := by
  refine (dats m 0 c).arrAt_eq_of_covers 10 _ (by decide +kernel) fun t hf y => ?_
  blk_simp
  rw [after0_10]
  have e0 : ((((cfg0.win 10).blk t).view.emb y) 0).val = t.val * 256 + (y 0).val := by blk_simp [(idx_out t).2.1]
  have e1 : ((((cfg0.win 10).blk t).view.emb y) 1).val = (y 1).val := by blk_simp [(idx_out t).2.1]
  exact xcodes_at m c (good m c t.val t.isLt).xc y _ e0 e1

/-- The tokens' scales. -/
theorem arr11 : (dats m 0 c).arrAt 11 cfg0.N = xscaleArr m c := by
  refine (dats m 0 c).arrAt_eq_of_covers 11 _ (by decide +kernel) fun t hf y => ?_
  blk_simp
  rw [after0_11]
  have e0 : ((((cfg0.win 11).blk t).view.emb y) 0).val = (y 0).val := by blk_simp [(idx_out t).2.2]
  have e1 : ((((cfg0.win 11).blk t).view.emb y) 1).val = t.val * 256 + (y 1).val := by blk_simp [(idx_out t).2.2]
  exact xscales_at m c (good m c t.val t.isLt).xs y _ e0 e1

end Cert.Arrays

end
-- ==== Proof.Results.lean ====
/- The results of the computation as whole arrays, free of any program. -/
module

public import proofs.«01_k».proof.Proof.Spec
public import Idealize.ShloMosaic.Lib.Pointwise

@[expose] public section

noncomputable section

namespace Cert.Results

open Idealize.ShloMosaic

/-- The index of a result of four axes, of three axes. -/
abbrev I4 (a b c d : ℕ) : Type := (i : Fin 4) → Fin (![a, b, c, d] i)
abbrev I3 (a b c : ℕ) : Type := (i : Fin 3) → Fin (![a, b, c] i)

/-- An index of four axes, the first of one place. -/
theorem eq4 {a b d : ℕ} (y : (⟨4, ![1, a, b, d]⟩ : Shape).Idx) : y = ix4 (0 : Fin 1) (y 1) (y 2) (y 3) := by
  funext i
  match i with
  | ⟨0, _⟩ => exact Fin.ext (by have : (y 0).val < 1 := (y 0).isLt; show (y 0).val = 0; omega)
  | ⟨1, _⟩ => rfl
  | ⟨2, _⟩ => rfl
  | ⟨3, _⟩ => rfl

/-- An index of three axes, the first of one place. -/
theorem eq3 {a b : ℕ} (y : (⟨3, ![1, a, b]⟩ : Shape).Idx) : y = ix3 (0 : Fin 1) (y 1) (y 2) := by
  funext i
  match i with
  | ⟨0, _⟩ => exact Fin.ext (by have : (y 0).val < 1 := (y 0).isLt; show (y 0).val = 0; omega)
  | ⟨1, _⟩ => rfl
  | ⟨2, _⟩ => rfl

variable (x : Fin 4096 → Fin 3072 → EReal) (g : Fin 3072 → EReal) (w : Fin 3072 → Fin 4608 → EReal) (ws : Fin 4608 → EReal)

/-- The codes of the sixteen heads from head `a` on: batch, token, head, place in the head. -/
def codes (a : ℕ) (ha : a + 16 ≤ 48) : I4 1 4096 16 96 → EReal := fun y =>
  Spec.hcode (x (y 1)) g w ws ⟨a + (y 2).val, by have : (y 2).val < 16 := (y 2).isLt; omega⟩ (y 3)

/-- The scales of the sixteen heads from head `a` on: batch, token, head. -/
def scales (a : ℕ) (ha : a + 16 ≤ 48) : I3 1 4096 16 → EReal := fun y =>
  Spec.hscale (x (y 1)) g w ws ⟨a + (y 2).val, by have : (y 2).val < 16 := (y 2).isLt; omega⟩

/-- The tokens' codes: batch, token, column. -/
def xcodes : I3 1 4096 3072 → EReal := fun y => Spec.xcode (x (y 1)) g (Spec.blk (y 2)) (Spec.lane (y 2))

/-- The tokens' scales: batch, token, block. -/
def xscales : I3 1 4096 24 → EReal := fun y => Spec.xscale (x (y 1)) g (y 2)

end Cert.Results

end
-- ==== Proof.Tail.lean ====
/- What the host lines after the grid make of the output arrays: each result is an array reshaped and its axes turned. -/
module

public import proofs.«01_k».proof.Proof.Arrays
public import proofs.«01_k».proof.Proof.Results

@[expose] public section

set_option maxRecDepth 65536

noncomputable section

namespace Cert.Tail

open Idealize.ShloMosaic Idealize.ShloMosaic.TcCoe Idealize.SL.Sem Cert.KernelIdeal Cert.KernelIdeal.Gen Cert.Blocks Cert.Arrays
open Cert.Results (eq3 eq4)

section Lines

variable (W : Valuation τ sig (Elt Ideal))

/-- The buffers after the host lines. -/
abbrev tail : Valuation τ sig (Elt Ideal) := StableHlo.after (List.flatten [hostOps1]) W

/-- The query codes. -/
theorem tail_v5 (T : Fin 4096) (h : Fin 16) (r : Fin 96) : (tail W (Proc.devRef .tc main_v5) : Vec Ideal S1x4096x16x96 .fp8e4m3) (ix4 (0 : Fin 1) T h r)
    = (W (Proc.devRef .tc main_v3_0) : Vec Ideal S1536x4096 .fp8e4m3) (ix2 (⟨h.val * 96 + r.val, by omega⟩ : Fin 1536) T) := by
  unfold tail
  after_reads_at

/-- The key codes. -/
theorem tail_v9 (T : Fin 4096) (h : Fin 16) (r : Fin 96) : (tail W (Proc.devRef .tc main_v9) : Vec Ideal S1x4096x16x96 .fp8e4m3) (ix4 (0 : Fin 1) T h r)
    = (W (Proc.devRef .tc main_v3_2) : Vec Ideal S1536x4096 .fp8e4m3) (ix2 (⟨h.val * 96 + r.val, by omega⟩ : Fin 1536) T) := by
  unfold tail
  after_reads_at

/-- The value codes. -/
theorem tail_v13 (T : Fin 4096) (h : Fin 16) (r : Fin 96) : (tail W (Proc.devRef .tc main_v13) : Vec Ideal S1x4096x16x96 .fp8e4m3) (ix4 (0 : Fin 1) T h r)
    = (W (Proc.devRef .tc main_v3_4) : Vec Ideal S1536x4096 .fp8e4m3) (ix2 (⟨h.val * 96 + r.val, by omega⟩ : Fin 1536) T) := by
  unfold tail
  after_reads_at

/-- The query scales. -/
theorem tail_v7 (T : Fin 4096) (h : Fin 16) : (tail W (Proc.devRef .tc main_v7) : Vec Ideal S1x4096x16 .f32) (ix3 (0 : Fin 1) T h)
    = (W (Proc.devRef .tc main_v3_1) : Vec Ideal S16x4096 .f32) (ix2 h T) := by
  unfold tail
  after_reads_at

/-- The key scales. -/
theorem tail_v11 (T : Fin 4096) (h : Fin 16) : (tail W (Proc.devRef .tc main_v11) : Vec Ideal S1x4096x16 .f32) (ix3 (0 : Fin 1) T h)
    = (W (Proc.devRef .tc main_v3_3) : Vec Ideal S16x4096 .f32) (ix2 h T) := by
  unfold tail
  after_reads_at

/-- The value scales. -/
theorem tail_v15 (T : Fin 4096) (h : Fin 16) : (tail W (Proc.devRef .tc main_v15) : Vec Ideal S1x4096x16 .f32) (ix3 (0 : Fin 1) T h)
    = (W (Proc.devRef .tc main_v3_5) : Vec Ideal S16x4096 .f32) (ix2 h T) := by
  unfold tail
  after_reads_at

/-- The tokens' codes. -/
theorem tail_v16 (T : Fin 4096) (k : Fin 3072) : (tail W (Proc.devRef .tc main_v16) : Vec Ideal S1x4096x3072 .fp8e4m3) (ix3 (0 : Fin 1) T k)
    = (W (Proc.devRef .tc main_v3_6) : Vec Ideal S4096x3072 .fp8e4m3) (ix2 T k) := by
  unfold tail
  after_reads_at

/-- The tokens' scales. -/
theorem tail_v18 (T : Fin 4096) (b : Fin 24) : (tail W (Proc.devRef .tc main_v18) : Vec Ideal S1x4096x24 .f32) (ix3 (0 : Fin 1) T b)
    = (W (Proc.devRef .tc main_v3_7) : Vec Ideal S24x4096 .f32) (ix2 b T) := by
  unfold tail
  after_reads_at

end Lines

section Values

variable (m : (ℓ : Loc nD τ sig) → Buf (Elt Ideal) ℓ) (c : Dev nD)

/-- The buffers when the grid is done. -/
abbrev W1 : Valuation τ sig (Elt Ideal) :=
  Pipeline.withArrays (cfgs 0).spec c (V0 m c) fun w => (dats m 0 c).arrAt w (cfgs 0).N

/-- An output array when the grid is done. -/
theorem W1_arr (w : Fin cfg0.W) : W1 m c (Proc.devRef .tc (Pipeline.arrRef (cfgs 0).spec w)) = (dats m 0 c).arrAt w (cfgs 0).N :=
  Pipeline.withArrays_arr (cfgs 0).spec (by decide) c (V0 m c) _ w

/-- The code array at head `h` and place `r`. -/
theorem codeArr_at (a : ℕ) (ha : a + 16 ≤ 48) (T : Fin 4096) (h : Fin 16) (r : Fin 96) :
    codeArr m c a ha (ix2 (⟨h.val * 96 + r.val, by omega⟩ : Fin 1536) T)
      = Results.codes (xs m c) (gs m c) (wsr m c) (ss m c) a ha (ix4 (0 : Fin 1) T h r) := by
  show Spec.hcode (xs m c T) (gs m c) (wsr m c) (ss m c) ⟨a + (h.val * 96 + r.val) / 96, _⟩ ⟨(h.val * 96 + r.val) % 96, _⟩
    = Spec.hcode (xs m c T) (gs m c) (wsr m c) (ss m c) ⟨a + h.val, _⟩ r
  congr 1
  · exact Fin.ext (by show a + (h.val * 96 + r.val) / 96 = a + h.val; omega)
  · exact Fin.ext (by show (h.val * 96 + r.val) % 96 = r.val; omega)

/-- The query codes after the run. -/
theorem val_v5 : Pipeline.afterTail₀ cfgs (dats m) 0 (V0 m) [hostOps1] c main_v5
    = Results.codes (xs m c) (gs m c) (wsr m c) (ss m c) 0 (by decide) := by
  funext y
  obtain ⟨T, h, r, rfl⟩ : ∃ (T : Fin 4096) (h : Fin 16) (r : Fin 96), y = ix4 (0 : Fin 1) T h r := ⟨y 1, y 2, y 3, eq4 y⟩
  refine (tail_v5 (W1 m c) T h r).trans ?_
  refine (congrFun ((W1_arr m c 4).trans (arr4 m c)) _).trans ?_
  exact codeArr_at m c 0 (by decide) T h r

/-- The key codes after the run. -/
theorem val_v9 : Pipeline.afterTail₀ cfgs (dats m) 0 (V0 m) [hostOps1] c main_v9
    = Results.codes (xs m c) (gs m c) (wsr m c) (ss m c) 16 (by decide) := by
  funext y
  obtain ⟨T, h, r, rfl⟩ : ∃ (T : Fin 4096) (h : Fin 16) (r : Fin 96), y = ix4 (0 : Fin 1) T h r := ⟨y 1, y 2, y 3, eq4 y⟩
  refine (tail_v9 (W1 m c) T h r).trans ?_
  refine (congrFun ((W1_arr m c 6).trans (arr6 m c)) _).trans ?_
  exact codeArr_at m c 16 (by decide) T h r

/-- The value codes after the run. -/
theorem val_v13 : Pipeline.afterTail₀ cfgs (dats m) 0 (V0 m) [hostOps1] c main_v13
    = Results.codes (xs m c) (gs m c) (wsr m c) (ss m c) 32 (by decide) := by
  funext y
  obtain ⟨T, h, r, rfl⟩ : ∃ (T : Fin 4096) (h : Fin 16) (r : Fin 96), y = ix4 (0 : Fin 1) T h r := ⟨y 1, y 2, y 3, eq4 y⟩
  refine (tail_v13 (W1 m c) T h r).trans ?_
  refine (congrFun ((W1_arr m c 8).trans (arr8 m c)) _).trans ?_
  exact codeArr_at m c 32 (by decide) T h r

/-- The query scales after the run. -/
theorem val_v7 : Pipeline.afterTail₀ cfgs (dats m) 0 (V0 m) [hostOps1] c main_v7
    = Results.scales (xs m c) (gs m c) (wsr m c) (ss m c) 0 (by decide) := by
  funext y
  obtain ⟨T, h, rfl⟩ : ∃ (T : Fin 4096) (h : Fin 16), y = ix3 (0 : Fin 1) T h := ⟨y 1, y 2, eq3 y⟩
  refine (tail_v7 (W1 m c) T h).trans ?_
  exact congrFun ((W1_arr m c 5).trans (arr5 m c)) _

/-- The key scales after the run. -/
theorem val_v11 : Pipeline.afterTail₀ cfgs (dats m) 0 (V0 m) [hostOps1] c main_v11
    = Results.scales (xs m c) (gs m c) (wsr m c) (ss m c) 16 (by decide) := by
  funext y
  obtain ⟨T, h, rfl⟩ : ∃ (T : Fin 4096) (h : Fin 16), y = ix3 (0 : Fin 1) T h := ⟨y 1, y 2, eq3 y⟩
  refine (tail_v11 (W1 m c) T h).trans ?_
  exact congrFun ((W1_arr m c 7).trans (arr7 m c)) _

/-- The value scales after the run. -/
theorem val_v15 : Pipeline.afterTail₀ cfgs (dats m) 0 (V0 m) [hostOps1] c main_v15
    = Results.scales (xs m c) (gs m c) (wsr m c) (ss m c) 32 (by decide) := by
  funext y
  obtain ⟨T, h, rfl⟩ : ∃ (T : Fin 4096) (h : Fin 16), y = ix3 (0 : Fin 1) T h := ⟨y 1, y 2, eq3 y⟩
  refine (tail_v15 (W1 m c) T h).trans ?_
  exact congrFun ((W1_arr m c 9).trans (arr9 m c)) _

/-- The tokens' codes after the run. -/
theorem val_v16 : Pipeline.afterTail₀ cfgs (dats m) 0 (V0 m) [hostOps1] c main_v16 = Results.xcodes (xs m c) (gs m c) := by
  funext y
  obtain ⟨T, h, rfl⟩ : ∃ (T : Fin 4096) (h : Fin 3072), y = ix3 (0 : Fin 1) T h := ⟨y 1, y 2, eq3 y⟩
  refine (tail_v16 (W1 m c) T h).trans ?_
  exact congrFun ((W1_arr m c 10).trans (arr10 m c)) _

/-- The tokens' scales after the run. -/
theorem val_v18 : Pipeline.afterTail₀ cfgs (dats m) 0 (V0 m) [hostOps1] c main_v18 = Results.xscales (xs m c) (gs m c) := by
  funext y
  obtain ⟨T, h, rfl⟩ : ∃ (T : Fin 4096) (h : Fin 24), y = ix3 (0 : Fin 1) T h := ⟨y 1, y 2, eq3 y⟩
  refine (tail_v18 (W1 m c) T h).trans ?_
  exact congrFun ((W1_arr m c 11).trans (arr11 m c)) _

end Values

end Cert.Tail

end
-- ==== Proof.RefVal.lean ====
/- What the reference's steps read at an index, over the extended reals. -/
module

public import proofs.«01_k».proof.Proof.Gen.ReferenceIdeal.Skeleton
public import proofs.«01_k».proof.Proof.Spec
public import Idealize.ShloMosaic.PureOps.Ideal.Laws
public import Idealize.ShloMosaic.Lib.Pointwise
public import Idealize.ShloMosaic.Lib.Tactic

@[expose] public section

set_option maxRecDepth 16384

noncomputable section

namespace Cert.RefVal

open Idealize.ShloMosaic Idealize.ShloMosaic.TcCoe Cert.ReferenceIdeal Cert.ReferenceIdeal.Gen

/-- The exponent of a group's scale, from the group's greatest absolute value, elementwise. -/
def expoV {F : FTy → Type} [FloatOps F] {s : Shape} (a : FVec F s .f32) : FVec F s .f32 :=
  have x : FVec F s .f32 := mulf a (broadcast s (Scalar.ofBits .f32 0x3B124925#32))
  select (cmpf .olt x (broadcast s (Scalar.ofBits .f32 0x00800000#32))) (broadcast s (Scalar.ofBits .f32 0x00000000#32))
    (minimumf (addf (floor (divf (log x) (log (broadcast s (Scalar.ofBits .f32 0x40000000#32)))))
      (broadcast s (Scalar.ofBits .f32 0x3F800000#32))) (broadcast s (Scalar.ofBits .f32 0x42FC0000#32)))

/-- The exponents of a group's scale, for the blocks of the tokens and for the heads of a projection. -/
def xExpo {F : FTy → Type} [FloatOps F] (h : FVec F S4096x24x128 .f32) : FVec F S4096x24x1 .f32 :=
  expoV (shapeCast S4096x24x1 (multiReduction .maximumf [2] S4096x24 (absf h) 0xFF800000#32
    reduces_S4096x24x128_S4096x24 (.inl rfl) rfl) shapeCasts_S4096x24_S4096x24x1)

/-- The exponents of the heads' scales. -/
def hExpo {F : FTy → Type} [FloatOps F] (v : FVec F S4096x16x96 .f32) : FVec F S4096x16x1 .f32 :=
  expoV (shapeCast S4096x16x1 (multiReduction .maximumf [2] S4096x16 (absf v) 0xFF800000#32
    reduces_S4096x16x96_S4096x16 (.inl rfl) rfl) shapeCasts_S4096x16_S4096x16x1)

/-- The codes of the heads. -/
def hCode {F : FTy → Type} [FloatOps F] (v : FVec F S4096x16x96 .f32) : FVec F S1x4096x16x96 .fp8e4m3 :=
  shapeCast S1x4096x16x96 (truncf .fp8e4m3 (minimumf (broadcast S4096x16x96 (Scalar.ofBits .f32 0x43E00000#32))
    (maximumf (broadcast S4096x16x96 (Scalar.ofBits .f32 0xC3E00000#32)) (mulf v (broadcastTo S4096x16x96
      (exp2 (subf (broadcast S4096x16x1 (Scalar.ofBits .f32 0x00000000#32)) (hExpo v))) broadcasts_S4096x16x1_S4096x16x96))))
    bitsLt_fp8e4m3_f32) shapeCasts_S4096x16x96_S1x4096x16x96

/-- The scales of the heads. -/
def hScale {F : FTy → Type} [FloatOps F] (v : FVec F S4096x16x96 .f32) : FVec F S1x4096x16 .f32 :=
  shapeCast S1x4096x16 (exp2 (hExpo v)) shapeCasts_S4096x16x1_S1x4096x16

/-- Blocks multiplied by one number each and clipped. -/
def clipV {F : FTy → Type} [FloatOps F] (h : FVec F S4096x24x128 .f32) (e : FVec F S4096x24x1 .f32) : FVec F S4096x24x128 .fp8e4m3 :=
  truncf .fp8e4m3 (minimumf (broadcast S4096x24x128 (Scalar.ofBits .f32 0x43E00000#32))
    (maximumf (broadcast S4096x24x128 (Scalar.ofBits .f32 0xC3E00000#32)) (mulf h (broadcastTo S4096x24x128 e broadcasts_S4096x24x1_S4096x24x128))))
    bitsLt_fp8e4m3_f32

theorem clipV_apply (h : FVec Ideal S4096x24x128 .f32) (e : FVec Ideal S4096x24x1 .f32) (T : Fin 4096) (b : Fin 24) (l : Fin 128) :
    clipV h e (ix3 T b l) = Spec.clip (h (ix3 T b l) * e (ix3 T b (0 : Fin 1))) := by
  unfold clipV
  pointwise
  rfl

theorem expoV_apply {s : Shape} (a : FVec Ideal s .f32) (i : s.Idx) : expoV a i = Pow2.expo (a i) := rfl

theorem exp2_apply {s : Shape} (e : FVec Ideal s .f32) (i : s.Idx) : exp2 e i = Ideal.exp2 (e i) := rfl

theorem neg_apply {s : Shape} (e : FVec Ideal s .f32) (i : s.Idx) :
    exp2 (subf (broadcast s (Scalar.ofBits (F := Ideal) .f32 0x00000000#32)) e) i = Ideal.exp2 (0 - e i) :=
  congrArg (fun z => Ideal.exp2 (z - e i)) Pow2.c_zero

theorem xExpo_apply (h : FVec Ideal S4096x24x128 .f32) (T : Fin 4096) (b : Fin 24) :
    xExpo h (ix3 T b (0 : Fin 1)) = Pow2.expo (Spec.gmax fun l => h (ix3 T b l)) := by
  unfold xExpo
  rw [expoV_apply]
  refine congrArg Pow2.expo ?_
  pointwise
  rfl

theorem hExpo_apply (v : FVec Ideal S4096x16x96 .f32) (T : Fin 4096) (h : Fin 16) :
    hExpo v (ix3 T h (0 : Fin 1)) = Pow2.expo (Spec.gmax fun r => v (ix3 T h r)) := by
  unfold hExpo
  rw [expoV_apply]
  refine congrArg Pow2.expo ?_
  pointwise
  rfl

theorem hCode_apply (v : FVec Ideal S4096x16x96 .f32) (T : Fin 4096) (h : Fin 16) (r : Fin 96) :
    hCode v (ix4 (0 : Fin 1) T h r) = Spec.clip (v (ix3 T h r) * Pow2.inv (Spec.gmax fun r => v (ix3 T h r))) := by
  rw [Pow2.inv_eq, ← hExpo_apply, ← neg_apply]
  unfold hCode
  generalize exp2 (subf _ (hExpo v)) = e
  pointwise
  rfl

theorem hScale_apply (v : FVec Ideal S4096x16x96 .f32) (T : Fin 4096) (h : Fin 16) :
    hScale v (ix3 (0 : Fin 1) T h) = Pow2.scale (Spec.gmax fun r => v (ix3 T h r)) := by
  rw [Pow2.scale_eq, ← hExpo_apply, ← exp2_apply]
  unfold hScale
  generalize exp2 (hExpo v) = e
  pointwise

/-! ## The tokens -/

section Tokens

variable (x0 : Vec Ideal S1x4096x3072 .bf16) (x1 : Vec Ideal S1x3072 .bf16)

/-- A token's row. -/
abbrev row (T : Fin 4096) (k : Fin 3072) : EReal := x0 (ix3 (0 : Fin 1) T k)
/-- The gains. -/
abbrev gain (k : Fin 3072) : EReal := x1 (ix2 (0 : Fin 1) k)

theorem nrm_apply (T : Fin 4096) (b : Fin 24) (l : Fin 128) :
    k0_pay3 x0 x1 (ix3 T b l) = Spec.nrm (row x0 T) (gain x1) (Spec.col b l) := by
  unfold k0_pay3 Spec.nrm Spec.rinv
  pointwise
  rw [show (⟨b.val * 128 + l.val, by omega⟩ : Fin 3072) = Spec.col b l from Fin.ext (by show b.val * 128 + l.val = 128 * b.val + l.val; omega)]

theorem expo_apply (T : Fin 4096) (b : Fin 24) :
    k0_pay4 x0 x1 (ix3 T b (0 : Fin 1)) = Pow2.expo (Spec.xmax (row x0 T) (gain x1) b) := by
  have e : k0_pay4 x0 x1 = xExpo (k0_pay3 x0 x1) := rfl
  rw [e, xExpo_apply, Spec.xmax]
  simp only [nrm_apply]

theorem code_apply (T : Fin 4096) (b : Fin 24) (l : Fin 128) :
    k0_pay6 (k0_pay5 x0 x1) (Scalar.ofBits (F := Ideal) .f32 0xC3E00000#32) (Scalar.ofBits (F := Ideal) .f32 0x43E00000#32) (ix3 T b l)
      = Spec.xcode (row x0 T) (gain x1) b l := by
  rw [Spec.xcode, Pow2.inv_eq, ← expo_apply, ← nrm_apply, ← neg_apply]
  have e : k0_pay6 (k0_pay5 x0 x1) (Scalar.ofBits (F := Ideal) .f32 0xC3E00000#32) (Scalar.ofBits (F := Ideal) .f32 0x43E00000#32)
      = clipV (k0_pay3 x0 x1) (exp2 (subf (broadcast S4096x24x1 (Scalar.ofBits .f32 0x00000000#32)) (k0_pay4 x0 x1))) := rfl
  rw [e, clipV_apply]

theorem scale_apply (T : Fin 4096) (b : Fin 24) :
    k0_pay7 (k0_pay4 x0 x1) (ix3 T b (0 : Fin 1)) = Spec.xscale (row x0 T) (gain x1) b := by
  rw [Spec.xscale, Pow2.scale_eq, ← expo_apply]
  unfold k0_pay7
  exact exp2_apply _ _

/-- The tokens' codes, as stored. -/
theorem pay1_apply (T : Fin 4096) (k : Fin 3072) :
    k0_pay1 (k0_pay6 (k0_pay5 x0 x1) (Scalar.ofBits (F := Ideal) .f32 0xC3E00000#32) (Scalar.ofBits (F := Ideal) .f32 0x43E00000#32)) (ix3 (0 : Fin 1) T k)
      = Spec.xcode (row x0 T) (gain x1) (Spec.blk k) (Spec.lane k) := by
  rw [← code_apply]
  generalize k0_pay6 (F := Ideal) _ _ _ = q
  unfold k0_pay1
  pointwise

/-- The tokens' scales, as stored. -/
theorem pay2_apply (T : Fin 4096) (b : Fin 24) :
    k0_pay2 (k0_pay7 (k0_pay4 x0 x1)) (ix3 (0 : Fin 1) T b) = Spec.xscale (row x0 T) (gain x1) b := by
  rw [← scale_apply]
  generalize k0_pay7 (F := Ideal) _ = q
  unfold k0_pay2
  pointwise

variable (x2 : Vec Ideal S3072x4608 .fp8e4m3) (x3 : Vec Ideal S1x4608 .f32)

/-- The projection, head by head. -/
def projV {F : FTy → Type} [FloatOps F] (x0 : Vec F S1x4096x3072 .bf16) (x1 : Vec F S1x3072 .bf16) (x2 : Vec F S3072x4608 .fp8e4m3) (x3 : Vec F S1x4608 .f32) :
    FVec F S4096x48x96 .f32 :=
  k0_pay8 (k0_pay4 x0 x1) (k0_pay5 x0 x1) (Scalar.ofBits .f32 0xC3E00000#32) (Scalar.ofBits .f32 0x43E00000#32) x2 x3

theorem proj_apply (T : Fin 4096) (hd : Fin 48) (r : Fin 96) :
    projV x0 x1 x2 x3 (ix3 T hd r)
      = Spec.proj (row x0 T) (gain x1) (fun k n => x2 (ix2 k n)) (fun n => x3 (ix2 (0 : Fin 1) n)) (Spec.hrow hd r) := by
  unfold Spec.proj Spec.xb
  simp only [← code_apply, ← scale_apply]
  unfold projV k0_pay8
  generalize k0_pay6 (F := Ideal) _ _ _ = q
  generalize k0_pay7 (F := Ideal) _ = e
  pointwise
  rw [show (⟨hd.val * 96 + r.val, by omega⟩ : Fin 4608) = Spec.hrow hd r from Fin.ext (by show hd.val * 96 + r.val = 96 * hd.val + r.val; omega)]

end Tokens

end Cert.RefVal

end
-- ==== Proof.RefArrays.lean ====
/- What the reference's output arrays hold after its run. -/
module

public import proofs.«01_k».proof.Proof.RefVal
public import proofs.«01_k».proof.Proof.Results
public import proofs.«01_k».proof.Proof.Gen.ReferenceIdeal.Frame
public import Idealize.ShloMosaic.Lib.Pipeline.ValueKit
public import Idealize.ShloMosaic.Lib.StableHlo.ReadAt

@[expose] public section

set_option maxRecDepth 65536

noncomputable section

namespace Cert.RefArrays

open Idealize.ShloMosaic Idealize.ShloMosaic.TcCoe Idealize.SL.Sem Cert.ReferenceIdeal Cert.ReferenceIdeal.Gen
open Cert.Results (eq3 eq4)

variable (m : (ℓ : Loc nD τ sig) → Buf (Elt Ideal) ℓ) (c : Dev nD)

/-- The tokens. -/
def xs (T : Fin 4096) (k : Fin 3072) : EReal := (m ((c : Thread nD τ).loc main_arg0) : Vec Ideal S1x4096x3072 .bf16) (ix3 (0 : Fin 1) T k)
/-- The gains. -/
def gs (k : Fin 3072) : EReal := (m ((c : Thread nD τ).loc main_arg1) : Vec Ideal S3072 .bf16) (ix1 k)
/-- The weights. -/
def wsr (k : Fin 3072) (n : Fin 4608) : EReal := (m ((c : Thread nD τ).loc main_arg2) : Vec Ideal S3072x4608 .fp8e4m3) (ix2 k n)
/-- The weights' scales. -/
def ss (n : Fin 4608) : EReal := (m ((c : Thread nD τ).loc main_arg3) : Vec Ideal S4608 .f32) (ix1 n)

theorem V_g (k : Fin 3072) : (V m c main_v0 : Vec Ideal S1x3072 .bf16) (ix2 (0 : Fin 1) k) = gs m c k := by
  unfold V gs
  after_reads_at

theorem V_s (n : Fin 4608) : (V m c main_v1 : Vec Ideal S1x4608 .f32) (ix2 (0 : Fin 1) n) = ss m c n := by
  unfold V ss
  after_reads_at

theorem idx : ∀ t : Fin cfg0.N, (cfg0.win 0).index t = ![0, 0, 0] ∧ (cfg0.win 1).index t = ![0, 0] ∧ (cfg0.win 2).index t = ![0, 0]
    ∧ (cfg0.win 3).index t = ![0, 0] := by
  decide +kernel

theorem iblk_x (t : Fin cfg0.N) (T : Fin 4096) (k : Fin 3072) : (iblk m c 0 t : Vec Ideal S1x4096x3072 .bf16) (ix3 (0 : Fin 1) T k) = xs m c T k := by
  unfold xs
  rw [← V_main_arg0 m c]
  blk_ext [iblk, V, (idx t).1]

theorem iblk_g (t : Fin cfg0.N) (k : Fin 3072) : (iblk m c 1 t : Vec Ideal S1x3072 .bf16) (ix2 (0 : Fin 1) k) = gs m c k := by
  rw [← V_g]
  blk_ext [iblk, V, (idx t).2.1]

theorem iblk_w (t : Fin cfg0.N) (k : Fin 3072) (n : Fin 4608) : (iblk m c 2 t : Vec Ideal S3072x4608 .fp8e4m3) (ix2 k n) = wsr m c k n := by
  unfold wsr
  rw [← V_main_arg2 m c]
  blk_ext [iblk, V, (idx t).2.2.1]

theorem iblk_s (t : Fin cfg0.N) (n : Fin 4608) : (iblk m c 3 t : Vec Ideal S1x4608 .f32) (ix2 (0 : Fin 1) n) = ss m c n := by
  rw [← V_s]
  blk_ext [iblk, V, (idx t).2.2.2]

section Outs

variable {F : FTy → Type} [FloatOps F] (x0 : Vec F S1x4096x3072 .bf16) (x1 : Vec F S1x3072 .bf16) (x2 : Vec F S3072x4608 .fp8e4m3) (x3 : Vec F S1x4608 .f32)

/-- The query heads' codes, as the body leaves them. -/
theorem out4 : out0_4 x0 x1 x2 x3 = RefVal.hCode (extractStridedSlice S4096x16x96 ![0, 0, 0] (RefVal.projV x0 x1 x2 x3) slices_S4096x48x96_o0_0_0_S4096x16x96) := by
  unfold_out out0_4
  frame_out
  rfl

/-- The query heads' scales, as the body leaves them. -/
theorem out5 : out0_5 x0 x1 x2 x3 = RefVal.hScale (extractStridedSlice S4096x16x96 ![0, 0, 0] (RefVal.projV x0 x1 x2 x3) slices_S4096x48x96_o0_0_0_S4096x16x96) := by
  unfold_out out0_5
  frame_out
  rfl

/-- The key heads' codes, as the body leaves them. -/
theorem out6 : out0_6 x0 x1 x2 x3 = RefVal.hCode (extractStridedSlice S4096x16x96 ![0, 16, 0] (RefVal.projV x0 x1 x2 x3) slices_S4096x48x96_o0_16_0_S4096x16x96) := by
  unfold_out out0_6
  frame_out
  rfl

/-- The key heads' scales, as the body leaves them. -/
theorem out7 : out0_7 x0 x1 x2 x3 = RefVal.hScale (extractStridedSlice S4096x16x96 ![0, 16, 0] (RefVal.projV x0 x1 x2 x3) slices_S4096x48x96_o0_16_0_S4096x16x96) := by
  unfold_out out0_7
  frame_out
  rfl

/-- The value heads' codes, as the body leaves them. -/
theorem out8 : out0_8 x0 x1 x2 x3 = RefVal.hCode (extractStridedSlice S4096x16x96 ![0, 32, 0] (RefVal.projV x0 x1 x2 x3) slices_S4096x48x96_o0_32_0_S4096x16x96) := by
  unfold_out out0_8
  frame_out
  rfl

/-- The value heads' scales, as the body leaves them. -/
theorem out9 : out0_9 x0 x1 x2 x3 = RefVal.hScale (extractStridedSlice S4096x16x96 ![0, 32, 0] (RefVal.projV x0 x1 x2 x3) slices_S4096x48x96_o0_32_0_S4096x16x96) := by
  unfold_out out0_9
  frame_out
  rfl

/-- The tokens' codes, as the body leaves them. -/
theorem out10 : out0_10 x0 x1 x2 x3 = k0_pay1 (k0_pay6 (k0_pay5 x0 x1) (Scalar.ofBits .f32 0xC3E00000#32) (Scalar.ofBits .f32 0x43E00000#32)) := by
  unfold_out out0_10
  frame_out

/-- The tokens' scales, as the body leaves them. -/
theorem out11 : out0_11 x0 x1 x2 x3 = k0_pay2 (k0_pay7 (k0_pay4 x0 x1)) := by
  unfold_out out0_11
  frame_out

end Outs

section Heads

variable (x0 : Vec Ideal S1x4096x3072 .bf16) (x1 : Vec Ideal S1x3072 .bf16) (x2 : Vec Ideal S3072x4608 .fp8e4m3) (x3 : Vec Ideal S1x4608 .f32)
  (x : Fin 4096 → Fin 3072 → EReal) (g : Fin 3072 → EReal) (w : Fin 3072 → Fin 4608 → EReal) (s : Fin 4608 → EReal)

/-- The body's inputs hold the tokens, the gains, the weights and their scales. -/
structure Ins : Prop where
  hx : ∀ T k, x0 (ix3 (0 : Fin 1) T k) = x T k
  hg : ∀ k, x1 (ix2 (0 : Fin 1) k) = g k
  hw : ∀ k n, x2 (ix2 k n) = w k n
  hs : ∀ n, x3 (ix2 (0 : Fin 1) n) = s n

variable {x0 x1 x2 x3 x g w s}

/-- Sixteen heads of the projection, from head `a` on. -/
theorem slice_apply (H : Ins x0 x1 x2 x3 x g w s) (a : ℕ) (ha : a + 16 ≤ 48) (hsl : S4096x48x96.Slices ![0, a, 0] S4096x16x96)
    (T : Fin 4096) (h : Fin 16) (r : Fin 96) :
    extractStridedSlice S4096x16x96 ![0, a, 0] (RefVal.projV x0 x1 x2 x3) hsl (ix3 T h r)
      = Spec.proj (x T) g w s (Spec.hrow ⟨a + h.val, by omega⟩ r) := by
  have e : extractStridedSlice S4096x16x96 ![0, a, 0] (RefVal.projV x0 x1 x2 x3) hsl (ix3 T h r)
      = RefVal.projV x0 x1 x2 x3 (ix3 T (⟨a + h.val, by omega⟩ : Fin 48) r) := by
    generalize RefVal.projV x0 x1 x2 x3 = v
    pointwise
  rw [e, RefVal.proj_apply]
  rw [show RefVal.row x0 T = x T from funext (H.hx T), show RefVal.gain x1 = g from funext H.hg,
    show (fun k n => x2 (ix2 k n)) = w from funext fun k => funext (H.hw k), show (fun n => x3 (ix2 (0 : Fin 1) n)) = s from funext H.hs]

/-- The codes of sixteen heads. -/
theorem codes_eq (H : Ins x0 x1 x2 x3 x g w s) (a : ℕ) (ha : a + 16 ≤ 48) (hsl : S4096x48x96.Slices ![0, a, 0] S4096x16x96) :
    RefVal.hCode (extractStridedSlice S4096x16x96 ![0, a, 0] (RefVal.projV x0 x1 x2 x3) hsl) = Results.codes x g w s a ha := by
  funext y
  obtain ⟨T, h, r, rfl⟩ : ∃ (T : Fin 4096) (h : Fin 16) (r : Fin 96), y = ix4 (0 : Fin 1) T h r := ⟨y 1, y 2, y 3, eq4 y⟩
  rw [RefVal.hCode_apply]
  simp only [slice_apply H a ha hsl]
  rfl

/-- The scales of sixteen heads. -/
theorem scales_eq (H : Ins x0 x1 x2 x3 x g w s) (a : ℕ) (ha : a + 16 ≤ 48) (hsl : S4096x48x96.Slices ![0, a, 0] S4096x16x96) :
    RefVal.hScale (extractStridedSlice S4096x16x96 ![0, a, 0] (RefVal.projV x0 x1 x2 x3) hsl) = Results.scales x g w s a ha := by
  funext y
  obtain ⟨T, h, rfl⟩ : ∃ (T : Fin 4096) (h : Fin 16), y = ix3 (0 : Fin 1) T h := ⟨y 1, y 2, eq3 y⟩
  rw [RefVal.hScale_apply]
  simp only [slice_apply H a ha hsl]
  rfl

/-- The tokens' codes. -/
theorem xcodes_eq (H : Ins x0 x1 x2 x3 x g w s) :
    k0_pay1 (k0_pay6 (k0_pay5 x0 x1) (Scalar.ofBits .f32 0xC3E00000#32) (Scalar.ofBits .f32 0x43E00000#32)) = Results.xcodes x g := by
  funext y
  obtain ⟨T, k, rfl⟩ : ∃ (T : Fin 4096) (k : Fin 3072), y = ix3 (0 : Fin 1) T k := ⟨y 1, y 2, eq3 y⟩
  rw [RefVal.pay1_apply, show RefVal.row x0 T = x T from funext (H.hx T), show RefVal.gain x1 = g from funext H.hg]
  rfl

/-- The tokens' scales. -/
theorem xscales_eq (H : Ins x0 x1 x2 x3 x g w s) : k0_pay2 (k0_pay7 (k0_pay4 x0 x1)) = Results.xscales x g := by
  funext y
  obtain ⟨T, b, rfl⟩ : ∃ (T : Fin 4096) (b : Fin 24), y = ix3 (0 : Fin 1) T b := ⟨y 1, y 2, eq3 y⟩
  rw [RefVal.pay2_apply, show RefVal.row x0 T = x T from funext (H.hx T), show RefVal.gain x1 = g from funext H.hg]
  rfl

end Heads

/-- The input windows stage the whole arguments. -/
theorem ins (t : Fin cfg0.N) : Ins (iblk m c 0 t) (iblk m c 1 t) (iblk m c 2 t) (iblk m c 3 t) (xs m c) (gs m c) (wsr m c) (ss m c) :=
  ⟨iblk_x m c t, iblk_g m c t, iblk_w m c t, iblk_s m c t⟩

/-- The output windows' index maps are constantly zero. -/
theorem idx_out : ∀ t : Fin cfg0.N, ((cfg0.win 4).index t = ![0, 0, 0, 0] ∧ (cfg0.win 6).index t = ![0, 0, 0, 0] ∧ (cfg0.win 8).index t = ![0, 0, 0, 0])
    ∧ (cfg0.win 5).index t = ![0, 0, 0] ∧ (cfg0.win 7).index t = ![0, 0, 0] ∧ (cfg0.win 9).index t = ![0, 0, 0]
    ∧ (cfg0.win 10).index t = ![0, 0, 0] ∧ (cfg0.win 11).index t = ![0, 0, 0] := by
  decide +kernel

/-- The query heads' codes after the run. -/
theorem arr4 : (dats m 0 c).arrAt 4 cfg0.N = Results.codes (xs m c) (gs m c) (wsr m c) (ss m c) 0 (by decide) := by
  refine (dats m 0 c).arrAt_eq_of_covers 4 _ (by decide +kernel) fun t hf y => ?_
  have e : ((cfg0.win 4).blk t).view.emb y = y := by
    funext i
    apply Fin.ext
    blk_simp [(idx_out t).1.1]
    fin_cases i <;> simp
  rw [e]
  blk_simp
  rw [after0_4, out4]
  exact congrFun (codes_eq (ins m c t) 0 (by decide) slices_S4096x48x96_o0_0_0_S4096x16x96) y

/-- The query heads' scales after the run. -/
theorem arr5 : (dats m 0 c).arrAt 5 cfg0.N = Results.scales (xs m c) (gs m c) (wsr m c) (ss m c) 0 (by decide) := by
  refine (dats m 0 c).arrAt_eq_of_covers 5 _ (by decide +kernel) fun t hf y => ?_
  have e : ((cfg0.win 5).blk t).view.emb y = y := by
    funext i
    apply Fin.ext
    blk_simp [(idx_out t).2.1]
    fin_cases i <;> simp
  rw [e]
  blk_simp
  rw [after0_5, out5]
  exact congrFun (scales_eq (ins m c t) 0 (by decide) slices_S4096x48x96_o0_0_0_S4096x16x96) y

/-- The key heads' codes after the run. -/
theorem arr6 : (dats m 0 c).arrAt 6 cfg0.N = Results.codes (xs m c) (gs m c) (wsr m c) (ss m c) 16 (by decide) := by
  refine (dats m 0 c).arrAt_eq_of_covers 6 _ (by decide +kernel) fun t hf y => ?_
  have e : ((cfg0.win 6).blk t).view.emb y = y := by
    funext i
    apply Fin.ext
    blk_simp [(idx_out t).1.2.1]
    fin_cases i <;> simp
  rw [e]
  blk_simp
  rw [after0_6, out6]
  exact congrFun (codes_eq (ins m c t) 16 (by decide) slices_S4096x48x96_o0_16_0_S4096x16x96) y

/-- The key heads' scales after the run. -/
theorem arr7 : (dats m 0 c).arrAt 7 cfg0.N = Results.scales (xs m c) (gs m c) (wsr m c) (ss m c) 16 (by decide) := by
  refine (dats m 0 c).arrAt_eq_of_covers 7 _ (by decide +kernel) fun t hf y => ?_
  have e : ((cfg0.win 7).blk t).view.emb y = y := by
    funext i
    apply Fin.ext
    blk_simp [(idx_out t).2.2.1]
    fin_cases i <;> simp
  rw [e]
  blk_simp
  rw [after0_7, out7]
  exact congrFun (scales_eq (ins m c t) 16 (by decide) slices_S4096x48x96_o0_16_0_S4096x16x96) y

/-- The value heads' codes after the run. -/
theorem arr8 : (dats m 0 c).arrAt 8 cfg0.N = Results.codes (xs m c) (gs m c) (wsr m c) (ss m c) 32 (by decide) := by
  refine (dats m 0 c).arrAt_eq_of_covers 8 _ (by decide +kernel) fun t hf y => ?_
  have e : ((cfg0.win 8).blk t).view.emb y = y := by
    funext i
    apply Fin.ext
    blk_simp [(idx_out t).1.2.2]
    fin_cases i <;> simp
  rw [e]
  blk_simp
  rw [after0_8, out8]
  exact congrFun (codes_eq (ins m c t) 32 (by decide) slices_S4096x48x96_o0_32_0_S4096x16x96) y

/-- The value heads' scales after the run. -/
theorem arr9 : (dats m 0 c).arrAt 9 cfg0.N = Results.scales (xs m c) (gs m c) (wsr m c) (ss m c) 32 (by decide) := by
  refine (dats m 0 c).arrAt_eq_of_covers 9 _ (by decide +kernel) fun t hf y => ?_
  have e : ((cfg0.win 9).blk t).view.emb y = y := by
    funext i
    apply Fin.ext
    blk_simp [(idx_out t).2.2.2.1]
    fin_cases i <;> simp
  rw [e]
  blk_simp
  rw [after0_9, out9]
  exact congrFun (scales_eq (ins m c t) 32 (by decide) slices_S4096x48x96_o0_32_0_S4096x16x96) y

/-- The tokens' codes after the run. -/
theorem arr10 : (dats m 0 c).arrAt 10 cfg0.N = Results.xcodes (xs m c) (gs m c) := by
  refine (dats m 0 c).arrAt_eq_of_covers 10 _ (by decide +kernel) fun t hf y => ?_
  have e : ((cfg0.win 10).blk t).view.emb y = y := by
    funext i
    apply Fin.ext
    blk_simp [(idx_out t).2.2.2.2.1]
    fin_cases i <;> simp
  rw [e]
  blk_simp
  rw [after0_10, out10]
  exact congrFun (xcodes_eq (ins m c t)) y

/-- The tokens' scales after the run. -/
theorem arr11 : (dats m 0 c).arrAt 11 cfg0.N = Results.xscales (xs m c) (gs m c) := by
  refine (dats m 0 c).arrAt_eq_of_covers 11 _ (by decide +kernel) fun t hf y => ?_
  have e : ((cfg0.win 11).blk t).view.emb y = y := by
    funext i
    apply Fin.ext
    blk_simp [(idx_out t).2.2.2.2.2]
    fin_cases i <;> simp
  rw [e]
  blk_simp
  rw [after0_11, out11]
  exact congrFun (xscales_eq (ins m c t)) y

end Cert.RefArrays

end
-- ==== Proof.Equal.lean ====
/- The two runs, result by result, and the equation of the kernel and the reference over the extended reals. -/
module

public import proofs.«01_k».proof.Defs
public import proofs.«01_k».proof.Proof.Tail
public import proofs.«01_k».proof.Proof.RefArrays
public import Idealize.ShloMosaic.Adequacy
public import Idealize.ShloMosaic.Init

@[expose] public section

set_option maxRecDepth 65536

noncomputable section

namespace Cert.Equal

open Idealize.ShloMosaic Idealize.ShloMosaic.TcCoe Idealize.SL.Sem

section Kernel

open Cert.KernelIdeal Cert.KernelIdeal.Gen

/-- The kernel's run ends with the eight results of the computation on its arguments. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v5) = Results.codes (Blocks.xs m c) (Blocks.gs m c) (Blocks.wsr m c) (Blocks.ss m c) 0 (by decide)
      ∧ r.2.mem ((c.tc : Thread nD τ).loc main_v7) = Results.scales (Blocks.xs m c) (Blocks.gs m c) (Blocks.wsr m c) (Blocks.ss m c) 0 (by decide)
      ∧ r.2.mem ((c.tc : Thread nD τ).loc main_v9) = Results.codes (Blocks.xs m c) (Blocks.gs m c) (Blocks.wsr m c) (Blocks.ss m c) 16 (by decide)
      ∧ r.2.mem ((c.tc : Thread nD τ).loc main_v11) = Results.scales (Blocks.xs m c) (Blocks.gs m c) (Blocks.wsr m c) (Blocks.ss m c) 16 (by decide)
      ∧ r.2.mem ((c.tc : Thread nD τ).loc main_v13) = Results.codes (Blocks.xs m c) (Blocks.gs m c) (Blocks.wsr m c) (Blocks.ss m c) 32 (by decide)
      ∧ r.2.mem ((c.tc : Thread nD τ).loc main_v15) = Results.scales (Blocks.xs m c) (Blocks.gs m c) (Blocks.wsr m c) (Blocks.ss m c) 32 (by decide)
      ∧ r.2.mem ((c.tc : Thread nD τ).loc main_v16) = Results.xcodes (Blocks.xs m c) (Blocks.gs m c)
      ∧ r.2.mem ((c.tc : Thread nD τ).loc main_v18) = Results.xscales (Blocks.xs m c) (Blocks.gs m c)) :=
  (θ_run defs _ _).mono (fun _ h c => ⟨
    ((h c).2 main_v5 (Pipeline.mem_restRefs_of main_v5 (by decide) (by decide))).trans (Tail.val_v5 m c),
    ((h c).2 main_v7 (Pipeline.mem_restRefs_of main_v7 (by decide) (by decide))).trans (Tail.val_v7 m c),
    ((h c).2 main_v9 (Pipeline.mem_restRefs_of main_v9 (by decide) (by decide))).trans (Tail.val_v9 m c),
    ((h c).2 main_v11 (Pipeline.mem_restRefs_of main_v11 (by decide) (by decide))).trans (Tail.val_v11 m c),
    ((h c).2 main_v13 (Pipeline.mem_restRefs_of main_v13 (by decide) (by decide))).trans (Tail.val_v13 m c),
    ((h c).2 main_v15 (Pipeline.mem_restRefs_of main_v15 (by decide) (by decide))).trans (Tail.val_v15 m c),
    ((h c).2 main_v16 (Pipeline.mem_restRefs_of main_v16 (by decide) (by decide))).trans (Tail.val_v16 m c),
    ((h c).2 main_v18 (Pipeline.mem_restRefs_of main_v18 (by decide) (by decide))).trans (Tail.val_v18 m c)⟩) (run_main m g)

end Kernel

section Reference

open Cert.ReferenceIdeal Cert.ReferenceIdeal.Gen

/-- The reference's run ends with the same results. -/
theorem reference_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v2_0) = Results.codes (RefArrays.xs m c) (RefArrays.gs m c) (RefArrays.wsr m c) (RefArrays.ss m c) 0 (by decide)
      ∧ r.2.mem ((c.tc : Thread nD τ).loc main_v2_1) = Results.scales (RefArrays.xs m c) (RefArrays.gs m c) (RefArrays.wsr m c) (RefArrays.ss m c) 0 (by decide)
      ∧ r.2.mem ((c.tc : Thread nD τ).loc main_v2_2) = Results.codes (RefArrays.xs m c) (RefArrays.gs m c) (RefArrays.wsr m c) (RefArrays.ss m c) 16 (by decide)
      ∧ r.2.mem ((c.tc : Thread nD τ).loc main_v2_3) = Results.scales (RefArrays.xs m c) (RefArrays.gs m c) (RefArrays.wsr m c) (RefArrays.ss m c) 16 (by decide)
      ∧ r.2.mem ((c.tc : Thread nD τ).loc main_v2_4) = Results.codes (RefArrays.xs m c) (RefArrays.gs m c) (RefArrays.wsr m c) (RefArrays.ss m c) 32 (by decide)
      ∧ r.2.mem ((c.tc : Thread nD τ).loc main_v2_5) = Results.scales (RefArrays.xs m c) (RefArrays.gs m c) (RefArrays.wsr m c) (RefArrays.ss m c) 32 (by decide)
      ∧ r.2.mem ((c.tc : Thread nD τ).loc main_v2_6) = Results.xcodes (RefArrays.xs m c) (RefArrays.gs m c)
      ∧ r.2.mem ((c.tc : Thread nD τ).loc main_v2_7) = Results.xscales (RefArrays.xs m c) (RefArrays.gs m c)) :=
  (θ_run defs _ _).mono (fun _ h c => ⟨
    ((h c).1 4).trans (RefArrays.arr4 m c),
    ((h c).1 5).trans (RefArrays.arr5 m c),
    ((h c).1 6).trans (RefArrays.arr6 m c),
    ((h c).1 7).trans (RefArrays.arr7 m c),
    ((h c).1 8).trans (RefArrays.arr8 m c),
    ((h c).1 9).trans (RefArrays.arr9 m c),
    ((h c).1 10).trans (RefArrays.arr10 m c),
    ((h c).1 11).trans (RefArrays.arr11 m c)⟩) (run_main m g)

end Reference

/-- At `Ideal` the kernel's eight results and the reference's agree. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Results.codes (Blocks.xs m c) (Blocks.gs m c) (Blocks.wsr m c) (Blocks.ss m c) 0 (by decide), fun c => Results.scales (Blocks.xs m c) (Blocks.gs m c) (Blocks.wsr m c) (Blocks.ss m c) 0 (by decide), fun c => Results.codes (Blocks.xs m c) (Blocks.gs m c) (Blocks.wsr m c) (Blocks.ss m c) 16 (by decide), fun c => Results.scales (Blocks.xs m c) (Blocks.gs m c) (Blocks.wsr m c) (Blocks.ss m c) 16 (by decide), fun c => Results.codes (Blocks.xs m c) (Blocks.gs m c) (Blocks.wsr m c) (Blocks.ss m c) 32 (by decide), fun c => Results.scales (Blocks.xs m c) (Blocks.gs m c) (Blocks.wsr m c) (Blocks.ss m c) 32 (by decide), fun c => Results.xcodes (Blocks.xs m c) (Blocks.gs m c), fun c => Results.xscales (Blocks.xs m c) (Blocks.gs m c), ?_, ?_⟩
  · refine (θ_run _ _ _).mono (fun r h c => ?_) (θ_run_and (kernel_run m g) (Cert.KernelIdeal.Gen.unchanged m g))
    obtain ⟨h0, h1, h2, h3, h4, h5, h6, h7⟩ := h.1 c
    exact ⟨h0, h1, h2, h3, h4, h5, h6, h7, h.2 c⟩
  · refine (θ_run _ _ _).mono (fun r h c => ?_) (θ_run_and (reference_run m' g') (Cert.ReferenceIdeal.Gen.unchanged m' g'))
    obtain ⟨h0, h1, h2, h3, h4, h5, h6, h7⟩ := h.1 c
    obtain ⟨a0, a1, a2, a3⟩ := hargs c
    have ex : RefArrays.xs m' c = Blocks.xs m c := by unfold RefArrays.xs Blocks.xs; rw [a0]
    have eg : RefArrays.gs m' c = Blocks.gs m c := by unfold RefArrays.gs Blocks.gs; rw [a1]
    have ew : RefArrays.wsr m' c = Blocks.wsr m c := by unfold RefArrays.wsr Blocks.wsr; rw [a2]
    have es : RefArrays.ss m' c = Blocks.ss m c := by unfold RefArrays.ss Blocks.ss; rw [a3]
    rw [ex, eg, ew, es] at h0 h1 h2 h3 h4 h5
    rw [ex, eg] at h6 h7
    exact ⟨h0, h1, h2, h3, h4, h5, h6, h7, h.2 c⟩

end Cert.Equal

end
-- ==== Proof.lean ====
/- The proof of the certificate's claim (`Cert.Claim`): the frames of the three programs, the idealization,
and the equation of the kernel's and the reference's eight results over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial,
    Cert.Equal.algebraic⟩

end Cert.Proof

end
